-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x256x100x152 : Shape := ⟨4, ![5, 256, 100, 152]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S5x256x15200 : Shape := ⟨3, ![5, 256, 15200]⟩
abbrev S256x2304 : Shape := ⟨2, ![256, 2304]⟩
abbrev S3x256 : Shape := ⟨2, ![3, 256]⟩
abbrev S12x256 : Shape := ⟨2, ![12, 256]⟩
abbrev S256x1 : Shape := ⟨2, ![256, 1]⟩
abbrev S3x1 : Shape := ⟨2, ![3, 1]⟩
abbrev S12x1 : Shape := ⟨2, ![12, 1]⟩
abbrev S5x3x100x152 : Shape := ⟨4, ![5, 3, 100, 152]⟩
abbrev S5x12x100x152 : Shape := ⟨4, ![5, 12, 100, 152]⟩
abbrev S1x256x15200 : Shape := ⟨3, ![1, 256, 15200]⟩
abbrev S1x3x100x152 : Shape := ⟨4, ![1, 3, 100, 152]⟩
abbrev S1x12x100x152 : Shape := ⟨4, ![1, 12, 100, 152]⟩
abbrev S256x15744 : Shape := ⟨2, ![256, 15744]⟩
abbrev S9x256x256 : Shape := ⟨3, ![9, 256, 256]⟩
abbrev S16x256 : Shape := ⟨2, ![16, 256]⟩
abbrev S16x1 : Shape := ⟨2, ![16, 1]⟩
abbrev S2304x1 : Shape := ⟨2, ![2304, 1]⟩
abbrev S1x256 : Shape := ⟨2, ![1, 256]⟩
abbrev S2304x256 : Shape := ⟨2, ![2304, 256]⟩
abbrev S256x256 : Shape := ⟨2, ![256, 256]⟩
abbrev S1x256x256 : Shape := ⟨3, ![1, 256, 256]⟩
abbrev S4x256 : Shape := ⟨2, ![4, 256]⟩
abbrev S14x256 : Shape := ⟨2, ![14, 256]⟩
abbrev S2x256 : Shape := ⟨2, ![2, 256]⟩
abbrev S1x1 : Shape := ⟨2, ![1, 1]⟩
abbrev S1x256x152 : Shape := ⟨3, ![1, 256, 152]⟩
abbrev S256x152 : Shape := ⟨2, ![256, 152]⟩
abbrev S256x1540 : Shape := ⟨2, ![256, 1540]⟩
abbrev S16x1540 : Shape := ⟨2, ![16, 1540]⟩
abbrev S16x152 : Shape := ⟨2, ![16, 152]⟩
abbrev S3x152 : Shape := ⟨2, ![3, 152]⟩
abbrev S1x3x1x152 : Shape := ⟨4, ![1, 3, 1, 152]⟩
abbrev S12x152 : Shape := ⟨2, ![12, 152]⟩
abbrev S1x12x1x152 : Shape := ⟨4, ![1, 12, 1, 152]⟩

abbrev nBuf : Space → Nat
  | .hbm => 16
  | .vmem => 16
  | .smem => 0
  | _ => 0

abbrev bufTy : (tb : Table) → Fin (tcTables nBuf tb) → BufTy
  | .hbm, ⟨0, _⟩ => ⟨S5x256x100x152, .f32⟩
  | .hbm, ⟨1, _⟩ => ⟨S256x256x3x3, .f32⟩
  | .hbm, ⟨2, _⟩ => ⟨S256, .f32⟩
  | .hbm, ⟨3, _⟩ => ⟨S3x256x1x1, .f32⟩
  | .hbm, ⟨4, _⟩ => ⟨S3, .f32⟩
  | .hbm, ⟨5, _⟩ => ⟨S12x256x1x1, .f32⟩
  | .hbm, ⟨6, _⟩ => ⟨S12, .f32⟩
  | .hbm, ⟨7, _⟩ => ⟨S5x256x15200, .f32⟩
  | .hbm, ⟨8, _⟩ => ⟨S256x2304, .f32⟩
  | .hbm, ⟨9, _⟩ => ⟨S3x256, .f32⟩
  | .hbm, ⟨10, _⟩ => ⟨S12x256, .f32⟩
  | .hbm, ⟨11, _⟩ => ⟨S256x1, .f32⟩
  | .hbm, ⟨12, _⟩ => ⟨S3x1, .f32⟩
  | .hbm, ⟨13, _⟩ => ⟨S12x1, .f32⟩
  | .hbm, ⟨14, _⟩ => ⟨S5x3x100x152, .f32⟩
  | .hbm, ⟨15, _⟩ => ⟨S5x12x100x152, .f32⟩
  | .local _ .vmem, ⟨0, _⟩ => ⟨S1x256x15200, .f32⟩
  | .local _ .vmem, ⟨1, _⟩ => ⟨S1x256x15200, .f32⟩
  | .local _ .vmem, ⟨2, _⟩ => ⟨S256x2304, .f32⟩
  | .local _ .vmem, ⟨3, _⟩ => ⟨S256x1, .f32⟩
  | .local _ .vmem, ⟨4, _⟩ => ⟨S3x256, .f32⟩
  | .local _ .vmem, ⟨5, _⟩ => ⟨S12x256, .f32⟩
  | .local _ .vmem, ⟨6, _⟩ => ⟨S3x1, .f32⟩
  | .local _ .vmem, ⟨7, _⟩ => ⟨S12x1, .f32⟩
  | .local _ .vmem, ⟨8, _⟩ => ⟨S1x3x100x152, .f32⟩
  | .local _ .vmem, ⟨9, _⟩ => ⟨S1x3x100x152, .f32⟩
  | .local _ .vmem, ⟨10, _⟩ => ⟨S1x12x100x152, .f32⟩
  | .local _ .vmem, ⟨11, _⟩ => ⟨S1x12x100x152, .f32⟩
  | .local _ .vmem, ⟨12, _⟩ => ⟨S256x15744, .bf16⟩
  | .local _ .vmem, ⟨13, _⟩ => ⟨S9x256x256, .bf16⟩
  | .local _ .vmem, ⟨14, _⟩ => ⟨S16x256, .bf16⟩
  | .local _ .vmem, ⟨15, _⟩ => ⟨S16x1, .f32⟩
  | _, _ => ⟨S5x256x100x152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x15200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x3x100x152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x12x100x152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S5x256x100x152 : Shape := ⟨4, ![5, 256, 100, 152]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩
abbrev S5x256x102x154 : Shape := ⟨4, ![5, 256, 102, 154]⟩
abbrev S256x256x1x1 : Shape := ⟨4, ![256, 256, 1, 1]⟩
abbrev S256x256 : Shape := ⟨2, ![256, 256]⟩
abbrev S5x100x152x256 : Shape := ⟨4, ![5, 100, 152, 256]⟩
abbrev S1x256x1x1 : Shape := ⟨4, ![1, 256, 1, 1]⟩
abbrev S3x256 : Shape := ⟨2, ![3, 256]⟩
abbrev S5x100x152x3 : Shape := ⟨4, ![5, 100, 152, 3]⟩
abbrev S5x3x100x152 : Shape := ⟨4, ![5, 3, 100, 152]⟩
abbrev S1x3x1x1 : Shape := ⟨4, ![1, 3, 1, 1]⟩
abbrev S12x256 : Shape := ⟨2, ![12, 256]⟩
abbrev S5x100x152x12 : Shape := ⟨4, ![5, 100, 152, 12]⟩
abbrev S5x12x100x152 : Shape := ⟨4, ![5, 12, 100, 152]⟩
abbrev S1x12x1x1 : Shape := ⟨4, ![1, 12, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S5x256x100x152, .f32⟩
  | .hbm, ⟨1, _⟩ => ⟨S256x256x3x3, .f32⟩
  | .hbm, ⟨2, _⟩ => ⟨S256, .f32⟩
  | .hbm, ⟨3, _⟩ => ⟨S3x256x1x1, .f32⟩
  | .hbm, ⟨4, _⟩ => ⟨S3, .f32⟩
  | .hbm, ⟨5, _⟩ => ⟨S12x256x1x1, .f32⟩
  | .hbm, ⟨6, _⟩ => ⟨S12, .f32⟩
  | .hbm, ⟨7, _⟩ => ⟨S_, .i32⟩
  | .hbm, ⟨8, _⟩ => ⟨S_, .f32⟩
  | .hbm, ⟨9, _⟩ => ⟨S5x256x102x154, .f32⟩
  | .hbm, ⟨10, _⟩ => ⟨S256x256x1x1, .f32⟩
  | .hbm, ⟨11, _⟩ => ⟨S256x256, .f32⟩
  | .hbm, ⟨12, _⟩ => ⟨S5x256x100x152, .f32⟩
  | .hbm, ⟨13, _⟩ => ⟨S5x100x152x256, .f32⟩
  | .hbm, ⟨14, _⟩ => ⟨S5x256x100x152, .f32⟩
  | .hbm, ⟨15, _⟩ => ⟨S_, .f32⟩
  | .hbm, ⟨16, _⟩ => ⟨S5x256x100x152, .f32⟩
  | .hbm, ⟨17, _⟩ => ⟨S5x256x100x152, .f32⟩
  | .hbm, ⟨18, _⟩ => ⟨S256x256x1x1, .f32⟩
  | .hbm, ⟨19, _⟩ => ⟨S256x256, .f32⟩
  | .hbm, ⟨20, _⟩ => ⟨S5x256x100x152, .f32⟩
  | .hbm, ⟨21, _⟩ => ⟨S5x100x152x256, .f32⟩
  | .hbm, ⟨22, _⟩ => ⟨S5x256x100x152, .f32⟩
  | .hbm, ⟨23, _⟩ => ⟨S5x256x100x152, .f32⟩
  | .hbm, ⟨24, _⟩ => ⟨S256x256x1x1, .f32⟩
  | .hbm, ⟨25, _⟩ => ⟨S256x256, .f32⟩
  | .hbm, ⟨26, _⟩ => ⟨S5x256x100x152, .f32⟩
  | .hbm, ⟨27, _⟩ => ⟨S5x100x152x256, .f32⟩
  | .hbm, ⟨28, _⟩ => ⟨S5x256x100x152, .f32⟩
  | .hbm, ⟨29, _⟩ => ⟨S5x256x100x152, .f32⟩
  | .hbm, ⟨30, _⟩ => ⟨S256x256x1x1, .f32⟩
  | .hbm, ⟨31, _⟩ => ⟨S256x256, .f32⟩
  | .hbm, ⟨32, _⟩ => ⟨S5x256x100x152, .f32⟩
  | .hbm, ⟨33, _⟩ => ⟨S5x100x152x256, .f32⟩
  | .hbm, ⟨34, _⟩ => ⟨S5x256x100x152, .f32⟩
  | .hbm, ⟨35, _⟩ => ⟨S5x256x100x152, .f32⟩
  | .hbm, ⟨36, _⟩ => ⟨S256x256x1x1, .f32⟩
  | .hbm, ⟨37, _⟩ => ⟨S256x256, .f32⟩
  | .hbm, ⟨38, _⟩ => ⟨S5x256x100x152, .f32⟩
  | .hbm, ⟨39, _⟩ => ⟨S5x100x152x256, .f32⟩
  | .hbm, ⟨40, _⟩ => ⟨S5x256x100x152, .f32⟩
  | .hbm, ⟨41, _⟩ => ⟨S5x256x100x152, .f32⟩
  | .hbm, ⟨42, _⟩ => ⟨S256x256x1x1, .f32⟩
  | .hbm, ⟨43, _⟩ => ⟨S256x256, .f32⟩
  | .hbm, ⟨44, _⟩ => ⟨S5x256x100x152, .f32⟩
  | .hbm, ⟨45, _⟩ => ⟨S5x100x152x256, .f32⟩
  | .hbm, ⟨46, _⟩ => ⟨S5x256x100x152, .f32⟩
  | .hbm, ⟨47, _⟩ => ⟨S5x256x100x152, .f32⟩
  | .hbm, ⟨48, _⟩ => ⟨S256x256x1x1, .f32⟩
  | .hbm, ⟨49, _⟩ => ⟨S256x256, .f32⟩
  | .hbm, ⟨50, _⟩ => ⟨S5x256x100x152, .f32⟩
  | .hbm, ⟨51, _⟩ => ⟨S5x100x152x256, .f32⟩
  | .hbm, ⟨52, _⟩ => ⟨S5x256x100x152, .f32⟩
  | .hbm, ⟨53, _⟩ => ⟨S5x256x100x152, .f32⟩
  | .hbm, ⟨54, _⟩ => ⟨S256x256x1x1, .f32⟩
  | .hbm, ⟨55, _⟩ => ⟨S256x256, .f32⟩
  | .hbm, ⟨56, _⟩ => ⟨S5x256x100x152, .f32⟩
  | .hbm, ⟨57, _⟩ => ⟨S5x100x152x256, .f32⟩
  | .hbm, ⟨58, _⟩ => ⟨S5x256x100x152, .f32⟩
  | .hbm, ⟨59, _⟩ => ⟨S5x256x100x152, .f32⟩
  | .hbm, ⟨60, _⟩ => ⟨S256x256x1x1, .f32⟩
  | .hbm, ⟨61, _⟩ => ⟨S256x256, .f32⟩
  | .hbm, ⟨62, _⟩ => ⟨S5x256x100x152, .f32⟩
  | .hbm, ⟨63, _⟩ => ⟨S5x100x152x256, .f32⟩
  | .hbm, ⟨64, _⟩ => ⟨S5x256x100x152, .f32⟩
  | .hbm, ⟨65, _⟩ => ⟨S5x256x100x152, .f32⟩
  | .hbm, ⟨66, _⟩ => ⟨S1x256x1x1, .f32⟩
  | .hbm, ⟨67, _⟩ => ⟨S5x256x100x152, .f32⟩
  | .hbm, ⟨68, _⟩ => ⟨S5x256x100x152, .f32⟩
  | .hbm, ⟨69, _⟩ => ⟨S_, .f32⟩
  | .hbm, ⟨70, _⟩ => ⟨S5x256x100x152, .f32⟩
  | .hbm, ⟨71, _⟩ => ⟨S5x256x100x152, .f32⟩
  | .hbm, ⟨72, _⟩ => ⟨S3x256, .f32⟩
  | .hbm, ⟨73, _⟩ => ⟨S5x100x152x3, .f32⟩
  | .hbm, ⟨74, _⟩ => ⟨S5x3x100x152, .f32⟩
  | .hbm, ⟨75, _⟩ => ⟨S1x3x1x1, .f32⟩
  | .hbm, ⟨76, _⟩ => ⟨S5x3x100x152, .f32⟩
  | .hbm, ⟨77, _⟩ => ⟨S5x3x100x152, .f32⟩
  | .hbm, ⟨78, _⟩ => ⟨S12x256, .f32⟩
  | .hbm, ⟨79, _⟩ => ⟨S5x100x152x12, .f32⟩
  | .hbm, ⟨80, _⟩ => ⟨S5x12x100x152, .f32⟩
  | .hbm, ⟨81, _⟩ => ⟨S1x12x1x1, .f32⟩
  | .hbm, ⟨82, _⟩ => ⟨S5x12x100x152, .f32⟩
  | .hbm, ⟨83, _⟩ => ⟨S5x12x100x152, .f32⟩
  | _, _ => ⟨S5x256x100x152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_0 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩

abbrev nD : Nat := 1
abbrev τ : Topo := Topo.v7x

variable {F : FTy → Type} [FloatOps F]
-- ==== Proof.Step.lean ====
/- One load or one store of a kernel body at a time, over the whole contents of each buffer: the rules the body proof is
   built from. `Spot` finds a buffer among the owned ones; `load_step` and `store_step` run one operation. -/
module

public import Idealize.ShloMosaic.Lib.Memref
public import Idealize.ShloMosaic.Lib.Pipeline.FrameBody
public import Idealize.ShloMosaic.Lib.Tactic
public import Idealize.ShloMosaic.Lib.ValueIdx

@[expose] public section

noncomputable section

namespace Cert.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels} {U : Type} [URA U] {Lvl : Type} [Preorder Lvl]

local notation "𝕄" => MT nD τ sig Unit Val ℕ U Lvl

/-- `A` is the ownership of memref `m` at contents `x` together with a rest, and `A'` is the same rest with `m` at `y`. -/
def Spot (c : Thread nD τ) {sp : Space} {s : Shape} {e : EltTy} (m : Memref sig c.2.kind sp s e) (A A' : sProp 𝕄)
    (x y : s.Idx → Val e) : Prop :=
  ∃ R : sProp 𝕄, ((A ⊢ iprop(owns c m fullShare x ∗ R)) ∧ (iprop(owns c m fullShare x ∗ R) ⊢ A))
    ∧ (iprop(owns c m fullShare y ∗ R) ⊢ A') ∧ (A' ⊢ iprop(owns c m fullShare y ∗ R))

/-- Taking a buffer out of what comes after the first owned one. -/
theorem take_tail {P A B R : sProp 𝕄} (h : A ⊢ iprop(B ∗ R)) : iprop(P ∗ A) ⊢ iprop(B ∗ P ∗ R) := by
  iintro ⟨HP, HA⟩
  ihave ⟨HB, HR⟩ := h $$ HA
  isplitl [HB]; · iexact HB
  isplitl [HP]; · iexact HP
  iexact HR

/-- Putting it back. -/
theorem put_tail {P A B R : sProp 𝕄} (h : iprop(B ∗ R) ⊢ A) : iprop(B ∗ P ∗ R) ⊢ iprop(P ∗ A) := by
  iintro ⟨HB, HP, HR⟩
  isplitl [HP]; · iexact HP
  iapply h
  isplitl [HB]; · iexact HB
  iexact HR

/-- The buffer is the first of the owned ones. -/
theorem Spot.head (c : Thread nD τ) {sp : Space} {s : Shape} {e : EltTy} (m : Memref sig c.2.kind sp s e) (R : sProp 𝕄)
    (x y : s.Idx → Val e) :
    Spot c m iprop(owns c m fullShare x ∗ R) iprop(owns c m fullShare y ∗ R) x y :=
  ⟨R, ⟨.rfl, .rfl⟩, .rfl, .rfl⟩

/-- The buffer is among the owned ones after the first. -/
theorem Spot.tail {c : Thread nD τ} {sp : Space} {s : Shape} {e : EltTy} {m : Memref sig c.2.kind sp s e} {A A' : sProp 𝕄}
    {x y : s.Idx → Val e} (P : sProp 𝕄) (h : Spot c m A A' x y) : Spot c m iprop(P ∗ A) iprop(P ∗ A') x y := by
  obtain ⟨R, ⟨h1, h1'⟩, h2, h2'⟩ := h
  exact ⟨iprop(P ∗ R), ⟨take_tail h1, put_tail h1'⟩, put_tail h2, take_tail h2'⟩

/-- The buffer's place with its contents unchanged. -/
theorem Spot.left {c : Thread nD τ} {sp : Space} {s : Shape} {e : EltTy} {m : Memref sig c.2.kind sp s e} {A A' : sProp 𝕄}
    {x y : s.Idx → Val e} (h : Spot c m A A' x y) : Spot c m A A x x := by
  obtain ⟨R, ⟨h1, h1'⟩, -, -⟩ := h
  exact ⟨R, ⟨h1, h1'⟩, h1', h1⟩

variable {defs : Defs nD τ sig Val Λ} {c : Thread nD τ} {α : Type} {E : Set ℕ}

/-- A load through a rectangle reads the buffer's contents there, and the buffers stay as they are. -/
theorem load_step {cs : CoreSpace} {s : Shape} {e : EltTy} {m : Memref sig c.2.kind cs s e} {r : Rect s}
    {hl : m.view.LoadsAt r.toLoadRect} {k : (r.shape.Idx → Val e) → Prog (TpuEff nD τ sig Val Λ c.2) α} {A : sProp 𝕄}
    {K : α → sProp 𝕄} {x : s.Idx → Val e} (h : Spot c m A A x x)
    (hk : A ⊢ wp frame (wpE defs Variants.none c none) E (k fun z => x (r.emb z)) K) :
    A ⊢ wp frame (wpE defs Variants.none c none) E (.op (.load m r.toLoadRect hl) k) K := by
  obtain ⟨R, ⟨h1, -⟩, h2, -⟩ := h
  refine h1.trans ?_
  unfold owns
  iintro ⟨⟨%f, %hf, Hm⟩, HR⟩
  iapply (wp_load Variants.none c none E (S := m.view.set) (m.view.setOn_subset_set _)) $$ Hm
  iintro Hm
  have e1 : m.view.readAt Val r.toLoadRect f = fun z => x (r.emb z) := by subst hf; rfl
  rw [e1]
  iapply hk
  iapply h2
  isplitl [Hm]
  · unfold owns
    iexists f; isplitr; · ipureintro; exact hf
    iexact Hm
  iexact HR

/-- A store through a rectangle: the buffer then holds any `y` that has the stored values inside the rectangle and the old
    contents outside. -/
theorem store_step {cs : CoreSpace} {s : Shape} {e : EltTy} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {A A' : sProp 𝕄} {K : α → sProp 𝕄} {x y : s.Idx → Val e}
    (h : Spot c m A A' x y)
    (hin : ∀ z, y (r.emb z) = w z) (hout : ∀ i, i ∉ r.set → y i = x i)
    (hk : A' ⊢ wp frame (wpE defs Variants.none c none) E (k ⟨⟩) K) :
    A ⊢ wp frame (wpE defs Variants.none c none) E (.op (.store m r w Finset.univ hx hm) k) K := by
  obtain ⟨R, ⟨h1, -⟩, h2, -⟩ := h
  refine h1.trans ?_
  unfold owns
  iintro ⟨⟨%f, %hf, Hm⟩, HR⟩
  iapply (wp_store Variants.none c none E (m := m) (r := r) (S := m.view.set) (f := f) (m.view.setOn_slice_subset_set r _)) $$ Hm
  iintro Hm
  iapply hk
  iapply h2
  isplitl [Hm]
  · unfold owns
    iexists ((m.access r).write Val f w Finset.univ); isplitr
    · ipureintro
      funext i
      by_cases hi : i ∈ r.set
      · rw [← r.map_emb_univ, Finset.mem_map] at hi
        obtain ⟨z, -, rfl⟩ := hi
        rw [hin]
        exact View.read_slice_write_emb r f w (Finset.mem_univ z)
      · rw [hout i hi, ← hf]
        exact View.read_slice_write_of_not_mem r f w _ (by rwa [r.map_emb_univ])
    iexact Hm
  iexact HR

/-- A branch whose sides both go on with `j`: the rest is run once, from `B`. -/
theorem join_step {p : Prop} [Decidable p] {t : p → Prog (TpuEff nD τ sig Val Λ c.2) α}
    {e : ¬p → Prog (TpuEff nD τ sig Val Λ c.2) α} {A : sProp 𝕄} {K : α → sProp 𝕄}
    (j : PUnit → Prog (TpuEff nD τ sig Val Λ c.2) α) (B : sProp 𝕄) (hk : B ⊢ wp frame (wpE defs Variants.none c none) E (j ⟨⟩) K)
    (ht : ∀ h, (B ⊢ wp frame (wpE defs Variants.none c none) E (j ⟨⟩) K) → A ⊢ wp frame (wpE defs Variants.none c none) E (t h) K)
    (he : ∀ h, (B ⊢ wp frame (wpE defs Variants.none c none) E (j ⟨⟩) K) → A ⊢ wp frame (wpE defs Variants.none c none) E (e h) K) :
    A ⊢ wp frame (wpE defs Variants.none c none) E (dite p t e) K := by
  by_cases h : p
  · rw [dif_pos h]; exact ht h hk
  · rw [dif_neg h]; exact he h hk

/-- A program in two pieces: the second runs from what the first returns. -/
theorem bind_step {β : Type} {p : Prog (TpuEff nD τ sig Val Λ c.2) β} {k : β → Prog (TpuEff nD τ sig Val Λ c.2) α} {A : sProp 𝕄}
    {K : α → sProp 𝕄} (h : A ⊢ wp frame (wpE defs Variants.none c none) E p fun b => wp frame (wpE defs Variants.none c none) E (k b) K) :
    A ⊢ wp frame (wpE defs Variants.none c none) E (p >>= k) K := by
  rw [wp_bind]; exact h

/-- A program under another spelling. -/
theorem as_step {p p' : Prog (TpuEff nD τ sig Val Λ c.2) α} {A : sProp 𝕄} {K : α → sProp 𝕄} (hp : p = p')
    (h : A ⊢ wp frame (wpE defs Variants.none c none) E p' K) : A ⊢ wp frame (wpE defs Variants.none c none) E p K := by
  rw [hp]; exact h

/-- Finishing: a body that returns hands its continuation what it owns. -/
theorem ret_step {A : sProp 𝕄} {K : α → sProp 𝕄} {a : α} (h : A ⊢ K a) :
    A ⊢ wp frame (wpE defs Variants.none c none) E (.ret a) K := by
  rw [wp_ret]
  iintro HA
  imodintro
  iapply h
  iexact HA

end Cert.Step
-- ==== Proof.KernelIdealForms.lean ====
/- What the kernel's buffers hold, as arrays: the padded image the copied rows make, the weight planes, the stacked heads,
   one block of output rows, and the two outputs. Each is stated at any instance of the floats. -/
module

public import proofs.«01_k».proof.Proof.Step
public import proofs.«01_k».proof.Proof.Gen.KernelIdeal.Skeleton

@[expose] public section

noncomputable section

namespace Cert.KernelIdeal.Body

open Idealize.ShloMosaic Idealize.SL.Sem Cert.KernelIdeal.Gen Idealize.ShloMosaic.ValueIdx

variable {F : FTy → Type} [FloatOps F]

/-- The entries of `Z` whose coordinate on axis `a` is below `n`, the others those of `Y`. -/
def below {s : Shape} {α : Type} (a : Fin s.rank) (n : ℕ) (Z Y : s.Idx → α) : s.Idx → α :=
  fun i => if (i a).val < n then Z i else Y i

/-! ## The padded image -/

/-- The image's row `j`, as the kernel loads it. -/
def rowLd (x0 : Vec F S1x256x15200 .f32) (j : ℕ) : Vec F S1x256x152 .f32 :=
  fun z => x0 (ix3 (0 : Fin 1) (z 1) (Fin.ofNat 15200 (152 * j + (z 2).val)))

/-- A loaded row at the image scratch's element type, without its leading axis. -/
def rowPay (v : Vec F S1x256x152 .f32) : FVec F S256x152 .bf16 :=
  shapeCast S256x152 (truncf .bf16 (shapeCast S256x152 v shapeCasts_S1x256x152_S256x152) bitsLt_bf16_f32) shapeCasts_S256x152_S256x152

/-- The image scratch with the first `n` rows of the image `x0` copied in over `B`: row `j`'s entry `w` sits at column
    `154 * j + 155 + w`. -/
def rows (x0 : Vec F S1x256x15200 .f32) (B : Vec F S256x15744 .bf16) (n : ℕ) : Vec F S256x15744 .bf16 := fun i =>
  if 155 ≤ (i 1).val ∧ ((i 1).val - 155) % 154 < 152 ∧ ((i 1).val - 155) / 154 < n then
    rowPay (rowLd x0 (((i 1).val - 155) / 154)) (ix2 (i 0) (Fin.ofNat 152 (((i 1).val - 155) % 154)))
  else B i

/-- The image scratch all zero. -/
def zeroImg : FVec F S256x15744 .bf16 :=
  shapeCast S256x15744 (broadcast S256x15744 (Scalar.ofBits .bf16 0x0000#16 : F .bf16)) shapeCasts_S256x15744_S256x15744

/-! ## The weights -/

/-- The 0/1 matrix that picks, for each input channel `i`, row `9 * i + d` of the flattened weights. -/
def pick (d : BitVec 32) : FVec F S2304x256 .bf16 :=
  truncf .bf16 (select (cmpi .eq
      (broadcastTo S2304x256 (iota .tc S2304x1 32 [0] iota_S2304x1_d0_w32) broadcasts_S2304x1_S2304x256)
      (broadcastTo S2304x256 (addi (muli (iota .tc S1x256 32 [1] iota_S1x256_d1_w32) (broadcast S1x256 9#32)) (broadcast S1x256 d))
        broadcasts_S1x256_S2304x256))
    (broadcast S2304x256 (Scalar.ofBits .f32 0x3F800000#32 : F .f32)) (broadcast S2304x256 (Scalar.ofBits .f32 0x00000000#32 : F .f32)))
    bitsLt_bf16_f32

/-- Plane `d` of the weights: the flattened weights times the 0/1 matrix of `d`. -/
def planeOf (x1 : Vec F S256x2304 .f32) (d : BitVec 32) : FVec F S1x256x256 .bf16 :=
  shapeCast S1x256x256 (truncf .bf16 (matmul dot_S256x2304_S2304x256_S256x256_1_0_0_1_n_n none
    (truncf .bf16 (shapeCast S256x2304 x1 shapeCasts_S256x2304_S256x2304) bitsLt_bf16_f32) (pick d)
    (constant S256x256 .f32 0x00000000#32)) bitsLt_bf16_f32) shapeCasts_S256x256_S1x256x256

/-- The weight scratch: plane `d` at leading coordinate `d`. -/
def w9Of (x1 : Vec F S256x2304 .f32) : Vec F S9x256x256 .bf16 :=
  fun i => planeOf x1 (BitVec.ofNat 32 (i 0).val) (ix3 (0 : Fin 1) (i 1) (i 2))

/-- The score head's weights at the scratch's element type. -/
def headA (x3 : Vec F S3x256 .f32) : FVec F S3x256 .bf16 :=
  shapeCast S3x256 (truncf .bf16 (shapeCast S3x256 x3 shapeCasts_S3x256_S3x256) bitsLt_bf16_f32) shapeCasts_S3x256_S3x256

/-- The box head's weights at the scratch's element type. -/
def headB (x4 : Vec F S12x256 .f32) : FVec F S12x256 .bf16 :=
  shapeCast S12x256 (truncf .bf16 (shapeCast S12x256 x4 shapeCasts_S12x256_S12x256) bitsLt_bf16_f32) shapeCasts_S12x256_S12x256

/-- The head scratch's last row. -/
def headZ : FVec F S1x256 .bf16 :=
  shapeCast S1x256 (broadcast S1x256 (Scalar.ofBits .bf16 0x0000#16 : F .bf16)) shapeCasts_S1x256_S1x256

/-- The head scratch: three score rows, twelve box rows, one zero row. -/
def whOf (x3 : Vec F S3x256 .f32) (x4 : Vec F S12x256 .f32) : Vec F S16x256 .bf16 := fun i =>
  if (i 0).val < 3 then headA x3 (ix2 (Fin.ofNat 3 (i 0).val) (i 1))
  else if (i 0).val < 15 then headB x4 (ix2 (Fin.ofNat 12 ((i 0).val - 3)) (i 1))
  else headZ (ix2 (0 : Fin 1) (i 1))

/-- The head biases' scratch: three score entries, twelve box entries, one zero. -/
def hbOf (x5 : Vec F S3x1 .f32) (x6 : Vec F S12x1 .f32) : Vec F S16x1 .f32 := fun i =>
  if (i 0).val < 3 then
    shapeCast S3x1 (shapeCast S3x1 x5 shapeCasts_S3x1_S3x1) shapeCasts_S3x1_S3x1 (ix2 (Fin.ofNat 3 (i 0).val) (i 1))
  else if (i 0).val < 15 then
    shapeCast S12x1 (shapeCast S12x1 x6 shapeCasts_S12x1_S12x1) shapeCasts_S12x1_S12x1 (ix2 (Fin.ofNat 12 ((i 0).val - 3)) (i 1))
  else shapeCast S1x1 (broadcast S1x1 (Scalar.ofBits .f32 0x00000000#32 : F .f32)) shapeCasts_S1x1_S1x1 (ix2 (0 : Fin 1) (i 1))

/-! ## One block of ten output rows -/

/-- Plane `d` of the weight scratch, as the kernel loads it. -/
def planeLd (W9 : Vec F S9x256x256 .bf16) (d : ℕ) : Vec F S1x256x256 .bf16 :=
  fun z => W9 (ix3 (Fin.ofNat 9 d) (z 1) (z 2))

/-- The image scratch's 1540 columns from `p`, as the kernel loads them. -/
def tapLd (X : Vec F S256x15744 .bf16) (p : ℕ) : Vec F S256x1540 .bf16 :=
  fun z => X (ix2 (z 0) (Fin.ofNat 15744 (p + (z 1).val)))

/-- The product of one weight plane with the image scratch's columns from `p`. -/
def tapDot (W9 : Vec F S9x256x256 .bf16) (X : Vec F S256x15744 .bf16) (d p : ℕ) : FVec F S256x1540 .f32 :=
  matmul dot_S256x256_S256x1540_S256x1540_1_0_0_1_n_n none
    (shapeCast S256x256 (planeLd W9 d) shapeCasts_S1x256x256_S256x256) (tapLd X p) (constant S256x1540 .f32 0x00000000#32)

/-- The nine products of the block whose columns start at `p`, added up in the kernel's order. -/
def convSum (W9 : Vec F S9x256x256 .bf16) (X : Vec F S256x15744 .bf16) (p : ℕ) : FVec F S256x1540 .f32 :=
  addf (addf (addf (addf (addf (addf (addf (addf (addf (broadcast S256x1540 (Scalar.ofBits .f32 0x00000000#32 : F .f32))
    (tapDot W9 X 0 p)) (tapDot W9 X 1 (p + 1))) (tapDot W9 X 2 (p + 2)))
    (tapDot W9 X 3 (p + 154))) (tapDot W9 X 4 (p + 155))) (tapDot W9 X 5 (p + 156)))
    (tapDot W9 X 6 (p + 308))) (tapDot W9 X 7 (p + 309))) (tapDot W9 X 8 (p + 310))

/-- The two heads, stacked, at the block whose columns start at `1540 * b`: the convolution, its bias, the maximum with
    zero, then the heads' product and bias. -/
def block (X : Vec F S256x15744 .bf16) (W9 : Vec F S9x256x256 .bf16) (WH : Vec F S16x256 .bf16) (HB : Vec F S16x1 .f32)
    (x2 : Vec F S256x1 .f32) (b : ℕ) : FVec F S16x1540 .f32 :=
  addf (matmul dot_S16x256_S256x1540_S16x1540_1_0_0_1_n_n none WH
    (truncf .bf16 (maximumf
      (addf (convSum W9 X (1540 * b)) (broadcastTo S256x1540 (shapeCast S256x1 x2 shapeCasts_S256x1_S256x1) broadcasts_S256x1_S256x1540))
      (broadcast S256x1540 (Scalar.ofBits .f32 0x00000000#32 : F .f32))) bitsLt_bf16_f32)
    (constant S16x1540 .f32 0x00000000#32))
    (broadcastTo S16x1540 HB broadcasts_S16x1_S16x1540)

/-! ## The outputs -/

/-- The scores of the blocks `O`: row `h` is in block `h / 10`, at columns from `154 * (h % 10)`; the first three stacked rows. -/
def clsOf (O : ℕ → FVec F S16x1540 .f32) : Vec F S1x3x100x152 .f32 := fun i =>
  O ((i 2).val / 10) (ix2 (Fin.ofNat 16 (i 1).val) (Fin.ofNat 1540 (154 * ((i 2).val % 10) + (i 3).val)))

/-- The box regressions of the blocks `O`: as the scores, the twelve stacked rows after the first three. -/
def boxOf (O : ℕ → FVec F S16x1540 .f32) : Vec F S1x12x100x152 .f32 := fun i =>
  O ((i 2).val / 10) (ix2 (Fin.ofNat 16 (3 + (i 1).val)) (Fin.ofNat 1540 (154 * ((i 2).val % 10) + (i 3).val)))

end Cert.KernelIdeal.Body
-- ==== Proof.KernelIdealSteps.lean ====
/- The kernel's repeated moves, each proved once for every row, plane and block: copying an image row into the padded
   scratch, loading a weight plane or a run of columns, storing a plane, and storing an output row. -/
module

public import proofs.«01_k».proof.Proof.KernelIdealForms
public import proofs.«01_k».proof.Proof.Gen.KernelIdeal.Frame
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Step Idealize.ShloMosaic.ValueIdx Idealize.ShloMosaic.Pipeline

variable {F : FTy → Type} [FloatOps F]

local notation "𝕄" => MT nD τ sig Unit (Elt F) ℕ (UR sig nD τ) ℕ

variable {c : Dev nD} {α : Type} {E : Set ℕ}

/-- Reading a rectangle's own image: the coordinates are the rectangle's offsets plus the index. -/
theorem emb_val {s : Shape} {off sz : Fin s.rank → ℕ} {inb} (z : (Rect.unit (s := s) off sz inb).shape.Idx) (a : Fin s.rank) :
    ((Rect.unit (s := s) off sz inb).emb z a).val = off a + (z a).val := by
  rw [Rect.emb_apply, Rect.off_unit, Rect.stride_unit, Nat.one_mul]

/-- Loading an image row. -/
theorem row_step {a1 : Memref sig .tc .vmem S1x256x15200 .f32} {x0 : Vec F S1x256x15200 .f32} {q : ℕ} {i1 hl}
    {k : Vec F S1x256x152 .f32 → Prog (TpuEff nD τ sig (Elt F) Λ₀ .tc) α} {A : sProp 𝕄} {K : α → sProp 𝕄}
    (h : Spot (c : Thread nD τ) a1 A A x0 x0) (hq : 152 * (q / 152) = q)
    (hk : A ⊢ wp frame (wpE (defs₀ (F := F)) Variants.none c none) E (k (rowLd x0 (q / 152))) K) :
    A ⊢ wp frame (wpE (defs₀ (F := F)) Variants.none c none) E
      (.op (.load a1 (Rect.unit (s := S1x256x15200) ![0, 0, q] S1x256x152.size i1).toLoadRect hl) k) K := by
  refine load_step h ?_
  have : (fun z => x0 ((Rect.unit (s := S1x256x15200) ![0, 0, q] S1x256x152.size i1).emb z)) = rowLd x0 (q / 152) := by
    funext z
    unfold rowLd
    rw [hq]
    congr 1
    have h2 : q + 152 ≤ 15200 := i1 2
    have hz : (z 2).val < 152 := (z 2).isLt
    have hz0 : (z 0).val < 1 := (z 0).isLt
    funext a
    apply Fin.ext
    rw [emb_val]
    match a with
    | ⟨0, _⟩ => show 0 + (z 0).val = 0; omega
    | ⟨1, _⟩ => exact Nat.zero_add _
    | ⟨2, _⟩ => exact (Nat.mod_eq_of_lt (show q + (z 2).val < 15200 by omega)).symm
  rw [this]; exact hk

/-- Storing image row `n` into the image scratch, when the rows before it are stored. -/
theorem put_row {a10 : Memref sig .tc .vmem S256x15744 .bf16}
    {x0 : Vec F S1x256x15200 .f32} {B : Vec F S256x15744 .bf16} {n p : ℕ} {i2 hx hm} {w : FVec F S256x152 .bf16}
    {k : PUnit → Prog (TpuEff nD τ sig (Elt F) Λ₀ .tc) α} {A A' : sProp 𝕄} {K : α → sProp 𝕄}
    (h2 : Spot (c : Thread nD τ) a10 A A' (rows x0 B n) (rows x0 B ((p - 155) / 154 + 1)))
    (hn : (p - 155) / 154 = n) (hp : p = 154 * n + 155) (hw : w = rowPay (rowLd x0 n))
    (hk : A' ⊢ wp frame (wpE (defs₀ (F := F)) Variants.none c none) E (k ⟨⟩) K) :
    A ⊢ wp frame (wpE (defs₀ (F := F)) Variants.none c none) E
      (.op (.store a10 (Rect.unit (s := S256x15744) ![0, p] S256x152.size i2) w Finset.univ hx hm) k) K := by
  rw [hn] at h2
  refine store_step h2 ?_ ?_ hk
  · intro z
    rw [hw]
    subst hp
    have e1 : ((Rect.unit (s := S256x15744) ![0, 154 * n + 155] S256x152.size i2).emb z 1).val = 154 * n + 155 + (z 1).val := emb_val z 1
    have e0 : (Rect.unit (s := S256x15744) ![0, 154 * n + 155] S256x152.size i2).emb z 0 = z 0 :=
      Fin.ext ((emb_val z 0).trans (Nat.zero_add _))
    have hz' : (z 1).val < 152 := (z 1).isLt
    have e2 : (154 * n + 155 + (z 1).val - 155) % 154 = (z 1).val := by omega
    have e3 : (154 * n + 155 + (z 1).val - 155) / 154 = n := by omega
    unfold rows
    rw [e1, e0, e2, e3, if_pos ⟨by omega, hz', by omega⟩]
    congr 1
    funext a
    match a with
    | ⟨0, _⟩ => rfl
    | ⟨1, _⟩ => exact Fin.ext (Nat.mod_eq_of_lt hz')
  · intro i hi
    subst hp
    rw [Rect.mem_set_unit] at hi
    unfold rows
    have : ¬ (154 * n + 155 ≤ (i 1).val ∧ (i 1).val < 154 * n + 155 + 152) := by
      intro h
      apply hi
      intro a
      match a with
      | ⟨0, _⟩ => exact ⟨Nat.zero_le _, lt_of_lt_of_eq (i 0).isLt (Nat.zero_add _).symm⟩
      | ⟨1, _⟩ => exact h
    refine if_congr ⟨fun ⟨a, b, d⟩ => ⟨a, b, ?_⟩, fun ⟨a, b, d⟩ => ⟨a, b, by omega⟩⟩ rfl rfl
    omega

/-- Loading a weight plane. -/
theorem plane_step {a11 : Memref sig .tc .vmem S9x256x256 .bf16} {W9 : Vec F S9x256x256 .bf16} {d : ℕ} {i1 hl}
    {k : Vec F S1x256x256 .bf16 → Prog (TpuEff nD τ sig (Elt F) Λ₀ .tc) α} {A : sProp 𝕄} {K : α → sProp 𝕄}
    (h : Spot (c : Thread nD τ) a11 A A W9 W9)
    (hk : A ⊢ wp frame (wpE (defs₀ (F := F)) Variants.none c none) E (k (planeLd W9 d)) K) :
    A ⊢ wp frame (wpE (defs₀ (F := F)) Variants.none c none) E
      (.op (.load a11 (Rect.unit (s := S9x256x256) ![d, 0, 0] S1x256x256.size i1).toLoadRect hl) k) K := by
  refine load_step h ?_
  have : (fun z => W9 ((Rect.unit (s := S9x256x256) ![d, 0, 0] S1x256x256.size i1).emb z)) = planeLd W9 d := by
    funext z
    unfold planeLd
    congr 1
    have hd : d < 9 := by have := i1 0; simp at this; omega
    funext a
    apply Fin.ext
    rw [emb_val]
    match a with
    | ⟨0, _⟩ =>
      have hz : (z 0).val < 1 := (z 0).isLt
      have e : (Fin.ofNat 9 d).val = d := Nat.mod_eq_of_lt hd
      show d + (z 0).val = (Fin.ofNat 9 d).val
      omega
    | ⟨1, _⟩ => exact Nat.zero_add _
    | ⟨2, _⟩ => exact Nat.zero_add _
  rw [this]; exact hk

/-- Loading a run of the image scratch's columns. -/
theorem tap_step {a10 : Memref sig .tc .vmem S256x15744 .bf16} {X : Vec F S256x15744 .bf16} {p : ℕ} {i1 hl}
    {k : Vec F S256x1540 .bf16 → Prog (TpuEff nD τ sig (Elt F) Λ₀ .tc) α} {A : sProp 𝕄} {K : α → sProp 𝕄}
    (h : Spot (c : Thread nD τ) a10 A A X X)
    (hk : A ⊢ wp frame (wpE (defs₀ (F := F)) Variants.none c none) E (k (tapLd X p)) K) :
    A ⊢ wp frame (wpE (defs₀ (F := F)) Variants.none c none) E
      (.op (.load a10 (Rect.unit (s := S256x15744) ![0, p] S256x1540.size i1).toLoadRect hl) k) K := by
  refine load_step h ?_
  have : (fun z => X ((Rect.unit (s := S256x15744) ![0, p] S256x1540.size i1).emb z)) = tapLd X p := by
    funext z
    unfold tapLd
    congr 1
    have hp : p + 1540 ≤ 15744 := i1 1
    have hz : (z 1).val < 1540 := (z 1).isLt
    funext a
    apply Fin.ext
    rw [emb_val]
    match a with
    | ⟨0, _⟩ => exact Nat.zero_add _
    | ⟨1, _⟩ => exact (Nat.mod_eq_of_lt (show p + (z 1).val < 15744 by omega)).symm
  rw [this]; exact hk

/-- A part of the body at the head: run it, then the rest. -/
theorem part_step {β : Type} {p : Prog (TpuEff nD τ sig (Elt F) Λ₀ .tc) β} {k : β → Prog (TpuEff nD τ sig (Elt F) Λ₀ .tc) α}
    {A : sProp 𝕄} {K : α → sProp 𝕄} (p' : Prog (TpuEff nD τ sig (Elt F) Λ₀ .tc) β) (hp : p = p')
    (hk : A ⊢ wp frame (wpE (defs₀ (F := F)) Variants.none c none) E p' fun b => wp frame (wpE (defs₀ (F := F)) Variants.none c none) E (k b) K) :
    A ⊢ wp frame (wpE (defs₀ (F := F)) Variants.none c none) E (p >>= k) K :=
  bind_step (as_step hp hk)

/-- The end of a part. -/
theorem return_step {A : sProp 𝕄} {K : α → sProp 𝕄} {a : α} (h : A ⊢ K a) :
    A ⊢ wp frame (wpE (defs₀ (F := F)) Variants.none c none) E (.ret a) K :=
  ret_step h

/-- Loading anything. -/
theorem drop_step {s : Shape} {e : EltTy} {m : Memref sig .tc .vmem s e} {X : Vec F s e} {off sz : Fin s.rank → ℕ} {i1 hl}
    {k : ((Rect.unit (s := s) off sz i1).shape.Idx → Elt F e) → Prog (TpuEff nD τ sig (Elt F) Λ₀ .tc) α} {A : sProp 𝕄} {K : α → sProp 𝕄}
    (h : Spot (c : Thread nD τ) m A A X X)
    (hk : A ⊢ wp frame (wpE (defs₀ (F := F)) Variants.none c none) E (k fun z => X ((Rect.unit (s := s) off sz i1).emb z)) K) :
    A ⊢ wp frame (wpE (defs₀ (F := F)) Variants.none c none) E
      (.op (.load m (Rect.unit (s := s) off sz i1).toLoadRect hl) k) K :=
  load_step h hk

/-- Loading a whole buffer. -/
theorem whole_step {s : Shape} {e : EltTy} {m : Memref sig .tc .vmem s e} {X : Vec F s e} {off : Fin s.rank → ℕ} {i1 hl}
    {k : Vec F s e → Prog (TpuEff nD τ sig (Elt F) Λ₀ .tc) α} {A : sProp 𝕄} {K : α → sProp 𝕄}
    (h : Spot (c : Thread nD τ) m A A X X) (ho : ∀ a, off a = 0)
    (hk : A ⊢ wp frame (wpE (defs₀ (F := F)) Variants.none c none) E (k X) K) :
    A ⊢ wp frame (wpE (defs₀ (F := F)) Variants.none c none) E
      (.op (.load m (Rect.unit (s := s) off s.size i1).toLoadRect hl) k) K := by
  refine load_step h ?_
  have : (fun z => X ((Rect.unit (s := s) off s.size i1).emb z)) = X := by
    funext z
    congr 1
    funext a
    apply Fin.ext
    rw [emb_val, ho, Nat.zero_add]
  rw [this]; exact hk

/-- Storing the coordinates `n … n + l` of one axis, whole on the others: the buffer then holds `Z` below `n + l`. -/
theorem below_step {s : Shape} {e : EltTy} {m : Memref sig .tc .vmem s e} {Z Y : Vec F s e} (a : Fin s.rank) {n l : ℕ}
    {off sz : Fin s.rank → ℕ} {i1} {w : (Rect.unit (s := s) off sz i1).shape.Idx → Elt F e} {hx hm}
    {k : PUnit → Prog (TpuEff nD τ sig (Elt F) Λ₀ .tc) α} {A A' : sProp 𝕄} {K : α → sProp 𝕄}
    (h : Spot (c : Thread nD τ) m A A' (below a n Z Y) (below a (n + l) Z Y))
    (ho : off a = n) (hs : sz a = l) (hfull : ∀ b, b ≠ a → off b = 0 ∧ sz b = s.size b)
    (hin : ∀ z, Z ((Rect.unit (s := s) off sz i1).emb z) = w z)
    (hk : A' ⊢ wp frame (wpE (defs₀ (F := F)) Variants.none c none) E (k ⟨⟩) K) :
    A ⊢ wp frame (wpE (defs₀ (F := F)) Variants.none c none) E
      (.op (.store m (Rect.unit (s := s) off sz i1) w Finset.univ hx hm) k) K := by
  subst ho; subst hs
  refine store_step h ?_ ?_ hk
  · intro z
    have e1 := emb_val (inb := i1) z a
    have hz : (z a).val < sz a := (z a).isLt
    unfold below
    rw [if_pos (by omega), hin]
  · intro i hi
    rw [Rect.mem_set_unit] at hi
    unfold below
    have : ¬ (off a ≤ (i a).val ∧ (i a).val < off a + sz a) := by
      intro h
      apply hi
      intro b
      by_cases hb : b = a
      · subst hb; exact h
      · obtain ⟨h1, h2⟩ := hfull b hb
        rw [h1, h2]
        exact ⟨Nat.zero_le _, by have := (i b).isLt; omega⟩
    refine if_congr ⟨fun _ => ?_, fun _ => ?_⟩ rfl rfl <;> omega

/-! ## The first and last stages of a buffer filled slab by slab -/

/-- Nothing stored yet. -/
theorem below_zero {s : Shape} {α : Type} (a : Fin s.rank) (Z Y : s.Idx → α) : below a 0 Z Y = Y := by
  funext i
  exact if_neg (Nat.not_lt_zero _)

/-- All stored. -/
theorem below_all {s : Shape} {α : Type} (a : Fin s.rank) (n : ℕ) (h : ∀ i : s.Idx, (i a).val < n) (Z Y : s.Idx → α) :
    below a n Z Y = Z := by
  funext i
  exact if_pos (h i)

/-- No row copied yet. -/
theorem rows_zero (x0 : Vec F S1x256x15200 .f32) (B : Vec F S256x15744 .bf16) : rows x0 B 0 = B := by
  funext i
  exact if_neg fun h => Nat.not_lt_zero _ h.2.2

/-- Copying an image over another one leaves the new one. -/
theorem rows_rows (x0 x0' : Vec F S1x256x15200 .f32) (B : Vec F S256x15744 .bf16) (n : ℕ) : rows x0 (rows x0' B n) n = rows x0 B n := by
  funext i
  unfold rows
  split
  · rfl
  · rfl

/-! ## The prologue's stores -/

/-- The indices of a whole-width slab of a two-axis buffer. -/
theorem emb_slab {R C : ℕ} {r : ℕ} {L : ℕ} {i1} (z : (Rect.unit (s := ⟨2, ![R, C]⟩) ![r, 0] (⟨2, ![L, C]⟩ : Shape).size i1).shape.Idx) :
    ((Rect.unit (s := ⟨2, ![R, C]⟩) ![r, 0] (⟨2, ![L, C]⟩ : Shape).size i1).emb z 0).val = r + (z 0).val
    ∧ (Rect.unit (s := ⟨2, ![R, C]⟩) ![r, 0] (⟨2, ![L, C]⟩ : Shape).size i1).emb z 1 = z 1 :=
  ⟨emb_val z 0, Fin.ext ((emb_val z 1).trans (Nat.zero_add _))⟩

/-- Overwriting a whole buffer. -/
theorem fill_step {s : Shape} {e : EltTy} {m : Memref sig .tc .vmem s e} {X Z : Vec F s e} {off : Fin s.rank → ℕ} {i1}
    {w : Vec F s e} {hx hm} {k : PUnit → Prog (TpuEff nD τ sig (Elt F) Λ₀ .tc) α} {A A' : sProp 𝕄} {K : α → sProp 𝕄}
    (h : Spot (c : Thread nD τ) m A A' X Z) (ho : ∀ a, off a = 0) (hw : w = Z)
    (hk : A' ⊢ wp frame (wpE (defs₀ (F := F)) Variants.none c none) E (k ⟨⟩) K) :
    A ⊢ wp frame (wpE (defs₀ (F := F)) Variants.none c none) E
      (.op (.store m (Rect.unit (s := s) off s.size i1) w Finset.univ hx hm) k) K := by
  subst hw
  refine store_step h ?_ ?_ hk
  · intro z
    congr 1
    funext a
    apply Fin.ext
    rw [emb_val, ho, Nat.zero_add]
  · intro i hi
    rw [Rect.mem_set_unit] at hi
    exact absurd (fun a => ⟨by rw [ho]; exact Nat.zero_le _, by rw [ho, Nat.zero_add]; exact (i a).isLt⟩) hi

/-- Storing weight plane `d`, when the planes before it are stored. -/
theorem put_plane {a11 : Memref sig .tc .vmem S9x256x256 .bf16} {x1 : Vec F S256x2304 .f32} {Y : Vec F S9x256x256 .bf16} {d : ℕ} {i1}
    {w : FVec F S1x256x256 .bf16} {hx hm} {n : ℕ}
    {k : PUnit → Prog (TpuEff nD τ sig (Elt F) Λ₀ .tc) α} {A A' : sProp 𝕄} {K : α → sProp 𝕄}
    (h : Spot (c : Thread nD τ) a11 A A' (below 0 n (w9Of x1) Y) (below 0 (d + 1) (w9Of x1) Y))
    (hd : d = n) (hw : w = planeOf x1 (BitVec.ofNat 32 d))
    (hk : A' ⊢ wp frame (wpE (defs₀ (F := F)) Variants.none c none) E (k ⟨⟩) K) :
    A ⊢ wp frame (wpE (defs₀ (F := F)) Variants.none c none) E
      (.op (.store a11 (Rect.unit (s := S9x256x256) ![d, 0, 0] S1x256x256.size i1) w Finset.univ hx hm) k) K := by
  subst hd
  refine below_step (0 : Fin S9x256x256.rank) h rfl rfl ?_ ?_ hk
  · intro b hb
    match b with
    | ⟨0, _⟩ => exact absurd rfl hb
    | ⟨1, _⟩ => exact ⟨rfl, rfl⟩
    | ⟨2, _⟩ => exact ⟨rfl, rfl⟩
  · intro z
    have hz : (z 0).val < 1 := (z 0).isLt
    have e0 : ((Rect.unit (s := S9x256x256) ![d, 0, 0] S1x256x256.size i1).emb z 0).val = d := by
      rw [emb_val]; show d + (z 0).val = d; omega
    have e1 : (Rect.unit (s := S9x256x256) ![d, 0, 0] S1x256x256.size i1).emb z 1 = z 1 :=
      Fin.ext ((emb_val z 1).trans (Nat.zero_add _))
    have e2 : (Rect.unit (s := S9x256x256) ![d, 0, 0] S1x256x256.size i1).emb z 2 = z 2 :=
      Fin.ext ((emb_val z 2).trans (Nat.zero_add _))
    rw [hw]
    unfold w9Of
    rw [e0, e1, e2]
    congr 1
    funext a
    match a with
    | ⟨0, _⟩ => exact Fin.ext (by show 0 = (z 0).val; omega)
    | ⟨1, _⟩ => rfl
    | ⟨2, _⟩ => rfl

/-- Storing `l` whole rows, from row `n`, inside a slab of `L` rows that is loaded, changed there and stored back. -/
theorem patch_step {R C r L st l : ℕ} {e : EltTy} {m : Memref sig .tc .vmem ⟨2, ![R, C]⟩ e}
    {Z Y : Vec F ⟨2, ![R, C]⟩ e} {n n' : ℕ} {i1 hl hx hm hs} {w : Vec F ⟨2, ![l, C]⟩ e}
    {k : PUnit → Prog (TpuEff nD τ sig (Elt F) Λ₀ .tc) α} {A A' : sProp 𝕄} {K : α → sProp 𝕄}
    (h : Spot (c : Thread nD τ) m A A' (below 0 n Z Y) (below 0 n' Z Y))
    (hn : r + st = n) (hn' : n + l = n') (hL : st + l ≤ L)
    (hin : ∀ (i : Fin R) (q : Fin l) (j : Fin C), i.val = n + q.val → Z (ix2 i j) = w (ix2 q j))
    (hk : A' ⊢ wp frame (wpE (defs₀ (F := F)) Variants.none c none) E (k ⟨⟩) K) :
    A ⊢ wp frame (wpE (defs₀ (F := F)) Variants.none c none) E
      (.op (.load m (Rect.unit (s := ⟨2, ![R, C]⟩) ![r, 0] (⟨2, ![L, C]⟩ : Shape).size i1).toLoadRect hl) fun old =>
        .op (.store m (Rect.unit (s := ⟨2, ![R, C]⟩) ![r, 0] (⟨2, ![L, C]⟩ : Shape).size i1)
          (updateSlice (s := ⟨2, ![L, C]⟩) (u := ⟨2, ![l, C]⟩) old w ![st, 0] hs) Finset.univ hx hm) k) K := by
  refine load_step h.left (store_step h ?_ ?_ hk)
  · intro z
    obtain ⟨e0, e1⟩ := emb_slab (i1 := i1) z
    have hC : (z 1).val < C := (z 1).isLt
    unfold updateSlice
    by_cases hc : st ≤ (z 0).val ∧ (z 0).val < st + l
    · rw [dif_pos (by
        intro a
        match a with
        | ⟨0, _⟩ => exact hc
        | ⟨1, _⟩ => exact ⟨Nat.zero_le _, lt_of_lt_of_eq hC (Nat.zero_add _).symm⟩)]
      unfold below
      rw [if_pos (by rw [e0]; omega)]
      have := hin ((Rect.unit (s := ⟨2, ![R, C]⟩) ![r, 0] (⟨2, ![L, C]⟩ : Shape).size i1).emb z 0) ⟨(z 0).val - st, by omega⟩ (z 1)
        (by rw [e0]; show r + (z 0).val = n + ((z 0).val - st); omega)
      refine Eq.trans (congrArg Z ?_) (this.trans (congrArg w ?_))
      · funext a
        match a with
        | ⟨0, _⟩ => rfl
        | ⟨1, _⟩ => exact e1
      · funext a
        match a with
        | ⟨0, _⟩ => rfl
        | ⟨1, _⟩ => rfl
    · rw [dif_neg (fun hh => hc (hh (0 : Fin 2)))]
      unfold below
      refine if_congr ⟨fun _ => ?_, fun _ => ?_⟩ rfl rfl <;> rw [e0] at * <;> omega
  · intro i hi
    rw [Rect.mem_set_unit] at hi
    have : ¬ (r ≤ (i 0).val ∧ (i 0).val < r + L) := by
      intro hh
      apply hi
      intro b
      match b with
      | ⟨0, _⟩ => exact hh
      | ⟨1, _⟩ => exact ⟨Nat.zero_le _, lt_of_lt_of_eq (i 1).isLt (Nat.zero_add _).symm⟩
    unfold below
    refine if_congr ⟨fun _ => ?_, fun _ => ?_⟩ rfl rfl <;> omega

/-- Storing `l` whole rows from row `n`. -/
theorem slab_step {R C r l : ℕ} {e : EltTy} {m : Memref sig .tc .vmem ⟨2, ![R, C]⟩ e}
    {Z Y : Vec F ⟨2, ![R, C]⟩ e} {n n' : ℕ} {i1 hx hm} {w : Vec F ⟨2, ![l, C]⟩ e}
    {k : PUnit → Prog (TpuEff nD τ sig (Elt F) Λ₀ .tc) α} {A A' : sProp 𝕄} {K : α → sProp 𝕄}
    (h : Spot (c : Thread nD τ) m A A' (below 0 n Z Y) (below 0 n' Z Y)) (hn : r = n) (hn' : n + l = n')
    (hin : ∀ (i : Fin R) (q : Fin l) (j : Fin C), i.val = n + q.val → Z (ix2 i j) = w (ix2 q j))
    (hk : A' ⊢ wp frame (wpE (defs₀ (F := F)) Variants.none c none) E (k ⟨⟩) K) :
    A ⊢ wp frame (wpE (defs₀ (F := F)) Variants.none c none) E
      (.op (.store m (Rect.unit (s := ⟨2, ![R, C]⟩) ![r, 0] (⟨2, ![l, C]⟩ : Shape).size i1) w Finset.univ hx hm) k) K := by
  subst hn'
  refine below_step (s := ⟨2, ![R, C]⟩) (0 : Fin 2) (off := ![r, 0]) (sz := (⟨2, ![l, C]⟩ : Shape).size) h hn rfl ?_ ?_ hk
  · intro b hb
    match b with
    | ⟨0, _⟩ => exact absurd rfl hb
    | ⟨1, _⟩ => exact ⟨rfl, rfl⟩
  · intro z
    obtain ⟨e0, e1⟩ := emb_slab (i1 := i1) z
    refine Eq.trans (congrArg Z ?_) ((hin ((Rect.unit (s := ⟨2, ![R, C]⟩) ![r, 0] (⟨2, ![l, C]⟩ : Shape).size i1).emb z 0) (z 0) (z 1) (e0.trans (congrArg (· + (z 0).val) hn))).trans (congrArg w ?_))
    · funext a
      match a with
      | ⟨0, _⟩ => rfl
      | ⟨1, _⟩ => exact e1
    · funext a
      match a with
      | ⟨0, _⟩ => rfl
      | ⟨1, _⟩ => rfl

/-! ## The stacked heads, slab by slab -/

/-- The head scratch's first three rows. -/
theorem wh_score (x3 : Vec F S3x256 .f32) (x4 : Vec F S12x256 .f32) (i : Fin 16) (q : Fin 3) (j : Fin 256) (h : i.val = 0 + q.val) :
    whOf x3 x4 (ix2 i j) = headA x3 (ix2 q j) := by
  have hq := q.isLt
  refine (if_pos (show i.val < 3 by omega)).trans (congrArg (fun t => headA x3 (ix2 t j)) (Fin.ext ?_))
  exact (Nat.mod_eq_of_lt (show i.val < 3 by omega)).trans (by omega)

/-- Its next twelve rows. -/
theorem wh_box (x3 : Vec F S3x256 .f32) (x4 : Vec F S12x256 .f32) (i : Fin 16) (q : Fin 12) (j : Fin 256) (h : i.val = 0 + 3 + q.val) :
    whOf x3 x4 (ix2 i j) = headB x4 (ix2 q j) := by
  have hq := q.isLt
  refine (if_neg (show ¬ i.val < 3 by omega)).trans ((if_pos (show i.val < 15 by omega)).trans
    (congrArg (fun t => headB x4 (ix2 t j)) (Fin.ext ?_)))
  exact (Nat.mod_eq_of_lt (show i.val - 3 < 12 by omega)).trans (by omega)

/-- Its last row. -/
theorem wh_zero (x3 : Vec F S3x256 .f32) (x4 : Vec F S12x256 .f32) (i : Fin 16) (q : Fin 1) (j : Fin 256) (h : i.val = 0 + 3 + 12 + q.val) :
    whOf x3 x4 (ix2 i j) = headZ (ix2 q j) := by
  obtain rfl : q = 0 := Subsingleton.elim _ _
  exact (if_neg (show ¬ i.val < 3 by omega)).trans (if_neg (show ¬ i.val < 15 by omega))

/-- The bias scratch's first three entries. -/
theorem hb_score (x5 : Vec F S3x1 .f32) (x6 : Vec F S12x1 .f32) (i : Fin 16) (q : Fin 3) (j : Fin 1) (h : i.val = 0 + q.val) :
    hbOf x5 x6 (ix2 i j) = shapeCast S3x1 (shapeCast S3x1 x5 shapeCasts_S3x1_S3x1) shapeCasts_S3x1_S3x1 (ix2 q j) := by
  have hq := q.isLt
  refine (if_pos (show i.val < 3 by omega)).trans (congrArg (fun t => shapeCast S3x1 (shapeCast S3x1 x5 shapeCasts_S3x1_S3x1) shapeCasts_S3x1_S3x1 (ix2 t j)) (Fin.ext ?_))
  exact (Nat.mod_eq_of_lt (show i.val < 3 by omega)).trans (by omega)

/-- Its next twelve entries. -/
theorem hb_box (x5 : Vec F S3x1 .f32) (x6 : Vec F S12x1 .f32) (i : Fin 16) (q : Fin 12) (j : Fin 1) (h : i.val = 0 + 3 + q.val) :
    hbOf x5 x6 (ix2 i j) = shapeCast S12x1 (shapeCast S12x1 x6 shapeCasts_S12x1_S12x1) shapeCasts_S12x1_S12x1 (ix2 q j) := by
  have hq := q.isLt
  refine (if_neg (show ¬ i.val < 3 by omega)).trans ((if_pos (show i.val < 15 by omega)).trans
    (congrArg (fun t => shapeCast S12x1 (shapeCast S12x1 x6 shapeCasts_S12x1_S12x1) shapeCasts_S12x1_S12x1 (ix2 t j)) (Fin.ext ?_)))
  exact (Nat.mod_eq_of_lt (show i.val - 3 < 12 by omega)).trans (by omega)

/-- Its last entry. -/
theorem hb_zero (x5 : Vec F S3x1 .f32) (x6 : Vec F S12x1 .f32) (i : Fin 16) (q : Fin 1) (j : Fin 1) (h : i.val = 0 + 3 + 12 + q.val) :
    hbOf x5 x6 (ix2 i j) = shapeCast S1x1 (broadcast S1x1 (Scalar.ofBits .f32 0x00000000#32 : F .f32)) shapeCasts_S1x1_S1x1 (ix2 q j) := by
  obtain rfl : q = 0 := Subsingleton.elim _ _
  exact (if_neg (show ¬ i.val < 3 by omega)).trans (if_neg (show ¬ i.val < 15 by omega))

/-! ## Storing an output row -/

/-- A row's columns lie inside its block. -/
theorem row_cut (h : ℕ) : S16x1540.Slices ![0, 154 * (h % 10)] S16x152 := ⟨rfl, fun a => by
  match a with
  | ⟨0, _⟩ => exact (by decide : 0 + 16 ≤ 16)
  | ⟨1, _⟩ => show 154 * (h % 10) + 152 ≤ 1540; omega⟩

/-- The score rows lie inside the stacked rows. -/
theorem cls_cut : S16x152.Slices ![0, 0] S3x152 := by decide
/-- The box rows lie inside the stacked rows. -/
theorem box_cut : S16x152.Slices ![3, 0] S12x152 := by decide
/-- The score rows have as many entries as their slab of the output. -/
theorem cls_cast : S3x152.ShapeCasts S1x3x1x152 := by decide
/-- The box rows have as many entries as their slab of the output. -/
theorem box_cast : S12x152.ShapeCasts S1x12x1x152 := by decide

/-- Row `r` of a block, for `l` of its stacked rows from `o`, as the kernel cuts it out. -/
theorem cut_row {o l cc b r : ℕ} (O : ℕ → FVec F S16x1540 .f32) (hA hB hC) (hcc : cc = 154 * r) (hr : r < 10) (ho : o + l ≤ 16)
    (z : (⟨4, ![1, l, 1, 152]⟩ : Shape).Idx) :
    shapeCast ⟨4, ![1, l, 1, 152]⟩ (extractStridedSlice (⟨2, ![l, 152]⟩ : Shape) ![o, 0]
        (extractStridedSlice S16x152 ![0, cc] (O b) hA) hB) hC z
      = O b (ix2 (Fin.ofNat 16 (o + (z 1).val)) (Fin.ofNat 1540 (154 * r + (z 3).val))) := by
  have h0 : (z 0).val < 1 := (z 0).isLt
  have h1 : (z 1).val < l := (z 1).isLt
  have h2 : (z 2).val < 1 := (z 2).isLt
  have h3 : (z 3).val < 152 := (z 3).isLt
  rw [shapeCast_apply _ hC z (ix2 (⟨(z 1).val, h1⟩ : Fin l) (⟨(z 3).val, h3⟩ : Fin 152)) (by
    rw [Shape.rowMajor_val_two, Shape.rowMajor_val_four]
    show (z 1).val * 152 + (z 3).val = (((z 0).val * l + (z 1).val) * 1 + (z 2).val) * 152 + (z 3).val
    have e : (z 0).val = 0 := by omega
    have e2 : (z 2).val = 0 := by omega
    rw [e, e2]; omega)]
  rw [extractStridedSlice_apply _ _ hB _ (ix2 (⟨o + (z 1).val, by omega⟩ : Fin 16) (⟨(z 3).val, h3⟩ : Fin 152)) (by
    intro a
    match a with
    | ⟨0, _⟩ => rfl
    | ⟨1, _⟩ => exact (Nat.zero_add _).symm)]
  rw [extractStridedSlice_apply _ _ hA _ (ix2 (Fin.ofNat 16 (o + (z 1).val)) (Fin.ofNat 1540 (154 * r + (z 3).val))) (by
    intro a
    match a with
    | ⟨0, _⟩ => exact (Nat.mod_eq_of_lt (show o + (z 1).val < 16 by omega)).trans (Nat.zero_add _).symm
    | ⟨1, _⟩ =>
      refine (Nat.mod_eq_of_lt (show 154 * r + (z 3).val < 1540 by omega)).trans ?_
      show 154 * r + (z 3).val = cc + (z 3).val
      rw [hcc])]

/-- The coordinates of an output row's entries. -/
theorem emb_row {l h : ℕ} {i1} (z : (Rect.unit (s := ⟨4, ![1, l, 100, 152]⟩) ![0, 0, h, 0] (⟨4, ![1, l, 1, 152]⟩ : Shape).size i1).shape.Idx) :
    ((Rect.unit (s := ⟨4, ![1, l, 100, 152]⟩) ![0, 0, h, 0] (⟨4, ![1, l, 1, 152]⟩ : Shape).size i1).emb z 1).val = (z 1).val
    ∧ ((Rect.unit (s := ⟨4, ![1, l, 100, 152]⟩) ![0, 0, h, 0] (⟨4, ![1, l, 1, 152]⟩ : Shape).size i1).emb z 2).val = h
    ∧ ((Rect.unit (s := ⟨4, ![1, l, 100, 152]⟩) ![0, 0, h, 0] (⟨4, ![1, l, 1, 152]⟩ : Shape).size i1).emb z 3).val = (z 3).val := by
  have h2 : (z 2).val < 1 := (z 2).isLt
  refine ⟨(emb_val z 1).trans (Nat.zero_add _), (emb_val z 2).trans ?_, (emb_val z 3).trans (Nat.zero_add _)⟩
  show h + (z 2).val = h
  omega

/-- Storing row `h` of the scores, when the rows before it are stored: the cut of block `b`. -/
theorem cls_step {a8 : Memref sig .tc .vmem S1x3x100x152 .f32} {O : ℕ → FVec F S16x1540 .f32} {Y : Vec F S1x3x100x152 .f32}
    {n h : ℕ} {i1 hx hm} {w : FVec F S1x3x1x152 .f32}
    {k : PUnit → Prog (TpuEff nD τ sig (Elt F) Λ₀ .tc) α} {A A' : sProp 𝕄} {K : α → sProp 𝕄}
    (hS : Spot (c : Thread nD τ) a8 A A' (below 2 n (clsOf O) Y) (below 2 (h + 1) (clsOf O) Y))
    (hh : h = n)
    (hw : w = shapeCast S1x3x1x152 (extractStridedSlice S3x152 ![0, 0]
      (extractStridedSlice S16x152 ![0, 154 * (h % 10)] (O (h / 10)) (row_cut h)) cls_cut) cls_cast)
    (hk : A' ⊢ wp frame (wpE (defs₀ (F := F)) Variants.none c none) E (k ⟨⟩) K) :
    A ⊢ wp frame (wpE (defs₀ (F := F)) Variants.none c none) E
      (.op (.store a8 (Rect.unit (s := S1x3x100x152) ![0, 0, h, 0] S1x3x1x152.size i1) w Finset.univ hx hm) k) K := by
  subst hh
  refine below_step (2 : Fin S1x3x100x152.rank) hS rfl rfl ?_ ?_ hk
  · intro b hb
    match b with
    | ⟨0, _⟩ => exact ⟨rfl, rfl⟩
    | ⟨1, _⟩ => exact ⟨rfl, rfl⟩
    | ⟨2, _⟩ => exact absurd rfl hb
    | ⟨3, _⟩ => exact ⟨rfl, rfl⟩
  · intro z
    obtain ⟨e1, e2, e3⟩ := emb_row (i1 := i1) z
    rw [hw]
    refine Eq.trans ?_ (cut_row (o := 0) O (row_cut h) cls_cut cls_cast rfl (Nat.mod_lt _ (by decide)) (by decide) z).symm
    unfold clsOf
    rw [e1, e2, e3, Nat.zero_add]

/-- Storing row `h` of the box regressions, likewise. -/
theorem box_step {a9 : Memref sig .tc .vmem S1x12x100x152 .f32} {O : ℕ → FVec F S16x1540 .f32} {Y : Vec F S1x12x100x152 .f32}
    {n h : ℕ} {i1 hx hm} {w : FVec F S1x12x1x152 .f32}
    {k : PUnit → Prog (TpuEff nD τ sig (Elt F) Λ₀ .tc) α} {A A' : sProp 𝕄} {K : α → sProp 𝕄}
    (hS : Spot (c : Thread nD τ) a9 A A' (below 2 n (boxOf O) Y) (below 2 (h + 1) (boxOf O) Y))
    (hh : h = n)
    (hw : w = shapeCast S1x12x1x152 (extractStridedSlice S12x152 ![3, 0]
      (extractStridedSlice S16x152 ![0, 154 * (h % 10)] (O (h / 10)) (row_cut h)) box_cut) box_cast)
    (hk : A' ⊢ wp frame (wpE (defs₀ (F := F)) Variants.none c none) E (k ⟨⟩) K) :
    A ⊢ wp frame (wpE (defs₀ (F := F)) Variants.none c none) E
      (.op (.store a9 (Rect.unit (s := S1x12x100x152) ![0, 0, h, 0] S1x12x1x152.size i1) w Finset.univ hx hm) k) K := by
  subst hh
  refine below_step (2 : Fin S1x12x100x152.rank) hS rfl rfl ?_ ?_ hk
  · intro b hb
    match b with
    | ⟨0, _⟩ => exact ⟨rfl, rfl⟩
    | ⟨1, _⟩ => exact ⟨rfl, rfl⟩
    | ⟨2, _⟩ => exact absurd rfl hb
    | ⟨3, _⟩ => exact ⟨rfl, rfl⟩
  · intro z
    obtain ⟨e1, e2, e3⟩ := emb_row (i1 := i1) z
    rw [hw]
    refine Eq.trans ?_ (cut_row (o := 3) O (row_cut h) box_cut box_cast rfl (Nat.mod_lt _ (by decide)) (by decide) z).symm
    unfold boxOf
    rw [e1, e2, e3]

end Cert.KernelIdeal.Body
-- ==== Proof.KernelIdealBody.lean ====
/- The kernel's body at one grid point, run from start to end over whole buffers. -/
module

public import proofs.«01_k».proof.Proof.KernelIdealSteps

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Step Idealize.ShloMosaic.ValueIdx

variable {F : FTy → Type} [FloatOps F]

local notation "𝕄" => MT nD τ sig Unit (Elt F) ℕ (UR sig nD τ) ℕ

/-- The thirteen buffers at their contents, and a rest. -/
abbrev St (c : Dev nD) (arg1 : Memref sig .tc .vmem S1x256x15200 .f32) (arg2 : Memref sig .tc .vmem S256x2304 .f32) (arg3 : Memref sig .tc .vmem S256x1 .f32) (arg4 : Memref sig .tc .vmem S3x256 .f32) (arg5 : Memref sig .tc .vmem S12x256 .f32) (arg6 : Memref sig .tc .vmem S3x1 .f32) (arg7 : Memref sig .tc .vmem S12x1 .f32) (arg8 : Memref sig .tc .vmem S1x3x100x152 .f32) (arg9 : Memref sig .tc .vmem S1x12x100x152 .f32) (arg10 : Memref sig .tc .vmem S256x15744 .bf16) (arg11 : Memref sig .tc .vmem S9x256x256 .bf16) (arg12 : Memref sig .tc .vmem S16x256 .bf16) (arg13 : Memref sig .tc .vmem S16x1 .f32)
    (x0 : Vec F S1x256x15200 .f32) (x1 : Vec F S256x2304 .f32) (x2 : Vec F S256x1 .f32) (x3 : Vec F S3x256 .f32) (x4 : Vec F S12x256 .f32) (x5 : Vec F S3x1 .f32) (x6 : Vec F S12x1 .f32) (y8 : Vec F S1x3x100x152 .f32) (y9 : Vec F S1x12x100x152 .f32) (X : Vec F S256x15744 .bf16) (W9 : Vec F S9x256x256 .bf16) (WH : Vec F S16x256 .bf16) (HB : Vec F S16x1 .f32) (R : sProp 𝕄) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ owns (c : Thread nD τ) arg10 fullShare X ∗ owns (c : Thread nD τ) arg11 fullShare W9 ∗ owns (c : Thread nD τ) arg12 fullShare WH ∗ owns (c : Thread nD τ) arg13 fullShare HB ∗ R)

variable {c : Dev nD} {E : Set ℕ}

/-- The condition the body branches on: the first grid point. -/
abbrev first (i : grid0.Coords) : Prop := Scalar.cmpi .ne (Scalar.extui (Scalar.cmpi .eq (BitVec.ofNat 32 (i 0).val) 0#32)) 0#32 = 1#1

set_option maxHeartbeats 100000000 in
/-- The body, from its buffers' contents to what it leaves: at the first grid point the four scratch buffers are set up,
    then at every point the image's hundred rows are copied in, and the ten blocks of output rows are computed and stored. -/
theorem run_body (i : grid0.Coords) (arg1 : Memref sig .tc .vmem S1x256x15200 .f32) (harg1 : arg1.IsWhole) (arg2 : Memref sig .tc .vmem S256x2304 .f32) (harg2 : arg2.IsWhole) (arg3 : Memref sig .tc .vmem S256x1 .f32) (harg3 : arg3.IsWhole) (arg4 : Memref sig .tc .vmem S3x256 .f32) (harg4 : arg4.IsWhole) (arg5 : Memref sig .tc .vmem S12x256 .f32) (harg5 : arg5.IsWhole) (arg6 : Memref sig .tc .vmem S3x1 .f32) (harg6 : arg6.IsWhole) (arg7 : Memref sig .tc .vmem S12x1 .f32) (harg7 : arg7.IsWhole) (arg8 : Memref sig .tc .vmem S1x3x100x152 .f32) (harg8 : arg8.IsWhole) (arg9 : Memref sig .tc .vmem S1x12x100x152 .f32) (harg9 : arg9.IsWhole) (arg10 : Memref sig .tc .vmem S256x15744 .bf16) (harg10 : arg10.IsWhole) (arg11 : Memref sig .tc .vmem S9x256x256 .bf16) (harg11 : arg11.IsWhole) (arg12 : Memref sig .tc .vmem S16x256 .bf16) (harg12 : arg12.IsWhole) (arg13 : Memref sig .tc .vmem S16x1 .f32) (harg13 : arg13.IsWhole)
    (x0 : Vec F S1x256x15200 .f32) (x1 : Vec F S256x2304 .f32) (x2 : Vec F S256x1 .f32) (x3 : Vec F S3x256 .f32)
    (x4 : Vec F S12x256 .f32) (x5 : Vec F S3x1 .f32) (x6 : Vec F S12x1 .f32) (y8 : Vec F S1x3x100x152 .f32) (y9 : Vec F S1x12x100x152 .f32)
    (X X' : Vec F S256x15744 .bf16) (W9 W9' : Vec F S9x256x256 .bf16) (WH WH' : Vec F S16x256 .bf16) (HB HB' : Vec F S16x1 .f32)
    (R : sProp 𝕄) (ht : first i → X' = zeroImg ∧ W9' = w9Of x1 ∧ WH' = whOf x3 x4 ∧ HB' = hbOf x5 x6)
    (hf : ¬ first i → X' = X ∧ W9' = W9 ∧ WH' = WH ∧ HB' = HB) :
    St c arg1 arg2 arg3 arg4 arg5 arg6 arg7 arg8 arg9 arg10 arg11 arg12 arg13 x0 x1 x2 x3 x4 x5 x6 y8 y9 X W9 WH HB R
      ⊢ wp frame (wpE (defs₀ (F := F)) Variants.none c none) E (cc0__rpn_kernel i arg1 harg1 arg2 harg2 arg3 harg3 arg4 harg4 arg5 harg5 arg6 harg6 arg7 harg7 arg8 harg8 arg9 harg9 arg10 harg10 arg11 harg11 arg12 harg12 arg13 harg13)
        (fun _ => St c arg1 arg2 arg3 arg4 arg5 arg6 arg7 arg8 arg9 arg10 arg11 arg12 arg13 x0 x1 x2 x3 x4 x5 x6
          (clsOf (block (rows x0 X' 100) W9' WH' HB' x2)) (boxOf (block (rows x0 X' 100) W9' WH' HB' x2))
          (rows x0 X' 100) W9' WH' HB' R) := by
  rw [cc0__rpn_kernel_eq_skeleton]
  unfold cc0__rpn_kernel_skel
  refine bind_step ?_
  rw [k0_part76_eq_skeleton]
  unfold k0_part76_skel
  refine bind_step ?_
  rw [k0_part6_eq_skeleton]
  unfold k0_part6_skel
  extract_lets g v0 v1 v2 jp
  refine join_step jp (St c arg1 arg2 arg3 arg4 arg5 arg6 arg7 arg8 arg9 arg10 arg11 arg12 arg13 x0 x1 x2 x3 x4 x5 x6
    (below 2 0 (clsOf (block (rows x0 X' 100) W9' WH' HB' x2)) y8) (below 2 0 (boxOf (block (rows x0 X' 100) W9' WH' HB' x2)) y9)
    (rows x0 X' 0) W9' WH' HB' R) ?_ ?_ ?_
  · refine as_step (by simp only [jp, Prog.lift, Prog.bind_op, Prog.bind_ret, Prog.pure_eq_ret]; rfl) ?_
    repeat (
      first
        | with_reducible apply row_step
          case h => focus (repeat (first | with_reducible exact Spot.head _ _ _ _ _ | with_reducible apply Spot.tail))
          case hq => rfl
        | with_reducible apply put_row
          case h2 => focus (repeat (first | with_reducible exact Spot.head _ _ _ _ _ | with_reducible apply Spot.tail))
          case hn => rfl
          case hp => rfl
          case hw => rfl
        | with_reducible apply plane_step
          case h => focus (repeat (first | with_reducible exact Spot.head _ _ _ _ _ | with_reducible apply Spot.tail))
        | with_reducible apply tap_step
          case h => focus (repeat (first | with_reducible exact Spot.head _ _ _ _ _ | with_reducible apply Spot.tail))
        | with_reducible apply cls_step
          case hS => focus (repeat (first | with_reducible exact Spot.head _ _ _ _ _ | with_reducible apply Spot.tail))
          case hh => rfl
          case hw => rfl
        | with_reducible apply box_step
          case hS => focus (repeat (first | with_reducible exact Spot.head _ _ _ _ _ | with_reducible apply Spot.tail))
          case hh => rfl
          case hw => rfl
        | with_reducible apply whole_step
          case h => focus (repeat (first | with_reducible exact Spot.head _ _ _ _ _ | with_reducible apply Spot.tail))
          case ho => intro a; fin_cases a <;> rfl
        | with_reducible apply return_step
        | refine part_step _ (by simp only [Prog.lift, Prog.bind_op, Prog.bind_ret, Prog.pure_eq_ret, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel]; rfl) ?_
        | apply drop_step
          case h => focus (repeat (first | with_reducible exact Spot.head _ _ _ _ _ | with_reducible apply Spot.tail))
        | refine as_step (Prog.pure_eq_ret _) ?_
      )
    rw [below_all (2 : Fin S1x3x100x152.rank) (99 + 1) (fun i => (i 2).isLt), below_all (2 : Fin S1x12x100x152.rank) (99 + 1) (fun i => (i 2).isLt)]
  · intro h hj
    clear_value jp
    obtain ⟨rfl, rfl, rfl, rfl⟩ := ht h
    rw [← below_zero (0 : Fin S9x256x256.rank) (w9Of x1) W9, ← below_zero (0 : Fin S16x256.rank) (whOf x3 x4) WH,
      ← below_zero (0 : Fin S16x1.rank) (hbOf x5 x6) HB]
    rw [below_zero, below_zero, rows_zero] at hj
    repeat (
      first
        | with_reducible apply fill_step (Z := zeroImg)
          case h => focus (repeat (first | with_reducible exact Spot.head _ _ _ _ _ | with_reducible apply Spot.tail))
          case ho => intro a; fin_cases a <;> rfl
          case hw => rfl
        | with_reducible apply put_plane
          case h => focus (repeat (first | with_reducible exact Spot.head _ _ _ _ _ | with_reducible apply Spot.tail))
          case hd => rfl
          case hw => rfl
        | with_reducible apply patch_step
          case h => focus (repeat (first | with_reducible exact Spot.head _ _ _ _ _ | with_reducible apply Spot.tail))
          case hn => rfl
          case hn' => rfl
          case hL => decide
          case hin => first | exact wh_score _ _ | exact wh_box _ _ | exact wh_zero _ _ | exact hb_score _ _ | exact hb_box _ _ | exact hb_zero _ _
        | with_reducible apply slab_step
          case h => focus (repeat (first | with_reducible exact Spot.head _ _ _ _ _ | with_reducible apply Spot.tail))
          case hn => rfl
          case hn' => rfl
          case hin => first | exact wh_score _ _ | exact wh_box _ _ | exact wh_zero _ _ | exact hb_score _ _ | exact hb_box _ _ | exact hb_zero _ _
        | with_reducible apply whole_step
          case h => focus (repeat (first | with_reducible exact Spot.head _ _ _ _ _ | with_reducible apply Spot.tail))
          case ho => intro a; fin_cases a <;> rfl
        | with_reducible apply return_step
        | refine part_step _ (by simp only [storeSubelements, Prog.lift, Prog.bind_op, Prog.bind_ret, Prog.pure_eq_ret, k0_part1_eq_skeleton, k0_part1_skel, k0_part2_eq_skeleton, k0_part2_skel, k0_part3_eq_skeleton, k0_part3_skel, k0_part4_eq_skeleton, k0_part4_skel, k0_part5_eq_skeleton, k0_part5_skel]; rfl) ?_
        | apply drop_step
          case h => focus (repeat (first | with_reducible exact Spot.head _ _ _ _ _ | with_reducible apply Spot.tail))
      )
    rw [below_all (0 : Fin S9x256x256.rank) (8 + 1) (fun i => (i 0).isLt), below_all (0 : Fin S16x256.rank) (0 + 3 + 12 + 1) (fun i => (i 0).isLt),
      below_all (0 : Fin S16x1.rank) (0 + 3 + 12 + 1) (fun i => (i 0).isLt)]
    exact hj
  · intro h hj
    obtain ⟨rfl, rfl, rfl, rfl⟩ := hf h
    rw [below_zero, below_zero, rows_zero] at hj
    exact hj

end Cert.KernelIdeal.Body
-- ==== Proof.KernelIdealFrame.lean ====
/- The frame of the program: at every grid point the kernel's body leaves the two outputs and the four carried scratch
   buffers at named contents, so the whole run ends with the arguments as they were, the results at those contents and
   every semaphore counter at zero. -/
module

public import proofs.«01_k».proof.Proof.KernelIdealBody
public import proofs.«01_k».proof.Proof.Gen.KernelIdeal.Frame
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen Cert.Step

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first grid point -/

/-- The body's condition holds at grid point 0 and at no other. -/
theorem first_iff : ∀ t : Fin cfg0.N, first (grid0.coords t) ↔ t.val = 0 :=
  (fun t => by
    have ht : t.val < 5 := Nat.lt_of_lt_of_eq t.isLt N_0
    have e0 : (grid0.coords t 0).val = t.val / 1 % 5 := Pipeline.Grid.coords_val t 0 (by decide) rfl
    rw [show t.val = 0 ↔ t.val % 5 = 0 by omega]
    simp only [first, e0]
    word_cmp
   : ∀ t : Fin grid0.N, first (grid0.coords t) ↔ t.val = 0)

/-! ## What the buffers hold at each point -/

/-- The convolution's weight block is the same at every grid point. -/
theorem same_1 (c : Dev nD) (t t' : Fin cfg0.N) : (iblk m c 1 t : Vec F S256x2304 .f32) = iblk m c 1 t' := rfl
/-- The convolution's bias block is the same at every grid point. -/
theorem same_2 (c : Dev nD) (t t' : Fin cfg0.N) : (iblk m c 2 t : Vec F S256x1 .f32) = iblk m c 2 t' := rfl
/-- The score head's weight block is the same at every grid point. -/
theorem same_3 (c : Dev nD) (t t' : Fin cfg0.N) : (iblk m c 3 t : Vec F S3x256 .f32) = iblk m c 3 t' := rfl
/-- The box head's weight block is the same at every grid point. -/
theorem same_4 (c : Dev nD) (t t' : Fin cfg0.N) : (iblk m c 4 t : Vec F S12x256 .f32) = iblk m c 4 t' := rfl
/-- The score head's bias block is the same at every grid point. -/
theorem same_5 (c : Dev nD) (t t' : Fin cfg0.N) : (iblk m c 5 t : Vec F S3x1 .f32) = iblk m c 5 t' := rfl
/-- The box head's bias block is the same at every grid point. -/
theorem same_6 (c : Dev nD) (t t' : Fin cfg0.N) : (iblk m c 6 t : Vec F S12x1 .f32) = iblk m c 6 t' := rfl

/-- The image scratch after point `t`: its level's rows inside the zero border. -/
def imgAt (c : Dev nD) (t : Fin cfg0.N) : Vec F S256x15744 .bf16 := rows (iblk m c 0 t) zeroImg 100

/-- The weight planes' scratch after point `t`. -/
def planesAt (c : Dev nD) (t : Fin cfg0.N) : Vec F S9x256x256 .bf16 := w9Of (iblk m c 1 t)

/-- The stacked heads' scratch after point `t`. -/
def headsAt (c : Dev nD) (t : Fin cfg0.N) : Vec F S16x256 .bf16 := whOf (iblk m c 3 t) (iblk m c 4 t)

/-- The stacked biases' scratch after point `t`. -/
def biasAt (c : Dev nD) (t : Fin cfg0.N) : Vec F S16x1 .f32 := hbOf (iblk m c 5 t) (iblk m c 6 t)

/-- The blocks of stacked head rows the body computes at point `t`. -/
def outAt (c : Dev nD) (t : Fin cfg0.N) : ℕ → FVec F S16x1540 .f32 :=
  block (imgAt m c t) (planesAt m c t) (headsAt m c t) (biasAt m c t) (iblk m c 2 t)

/-- The kernel's scratch buffer 0, whole. -/
abbrev scratch0 : Memref sig .tc .vmem S256x15744 .bf16 := Memref.whole cc0_scratch0
/-- The kernel's scratch buffer 1, whole. -/
abbrev scratch1 : Memref sig .tc .vmem S9x256x256 .bf16 := Memref.whole cc0_scratch1
/-- The kernel's scratch buffer 2, whole. -/
abbrev scratch2 : Memref sig .tc .vmem S16x256 .bf16 := Memref.whole cc0_scratch2
/-- The kernel's scratch buffer 3, whole. -/
abbrev scratch3 : Memref sig .tc .vmem S16x1 .f32 := Memref.whole cc0_scratch3

/-- What the launch hands over, with each scratch buffer owned at some contents. -/
theorem start_eq (c : Dev nD) : (Pipeline.ΦA spec0 c : sProp 𝕄) = iprop(((∃ d, owns (c : Thread nD τ) scratch0 fullShare d) ∗ (∃ d, owns (c : Thread nD τ) scratch1 fullShare d) ∗ (∃ d, owns (c : Thread nD τ) scratch2 fullShare d) ∗ (∃ d, owns (c : Thread nD τ) scratch3 fullShare d)) ∗ (∃ r, prngReg c r)) := by
  unfold Pipeline.ΦA
  rw [scopedRest0_eq]
  simp only [scratch0, scratch1, scratch2, scratch3, owns_whole]
  try rfl

/-- What is held between points: before the first, the scratch at any contents; after point `n`, at that point's. -/
def between (c : Dev nD) : (n : ℕ) → n ≤ cfg0.N → sProp 𝕄
  | 0, _ => Pipeline.ΦA spec0 c
  | n + 1, hn => iprop((owns (c : Thread nD τ) scratch0 fullShare (imgAt m c ⟨n, hn⟩) ∗ owns (c : Thread nD τ) scratch1 fullShare (planesAt m c ⟨n, hn⟩) ∗ owns (c : Thread nD τ) scratch2 fullShare (headsAt m c ⟨n, hn⟩) ∗ owns (c : Thread nD τ) scratch3 fullShare (biasAt m c ⟨n, hn⟩)) ∗ (∃ r, prngReg c r))

/-- The run's proof data: each operand's block left as found, the outputs at the body's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => clsOf (outAt m c t)
    | ⟨8, _⟩ => boxOf (outAt m c t)
  Φ t := between m c t.val (Nat.le_of_lt_succ t.isLt)
  q _ := fullShare
  owed _ := 0

/-- The arrays of the proof data are those the region finds. -/
theorem arrays_eq (c : Dev nD) (w : Fin cfg0.W) : (dats m 0 c).A w = V m c (Pipeline.arrRef spec0 w) := by dsimp only [dats]

/-- What the body leaves in the image window. -/
theorem left_0 (c : Dev nD) (t : Fin cfg0.N) : (dats m 0 c).after 0 t = iblk m c 0 t := by dsimp only [dats]
/-- What the body leaves in the convolution's weight window. -/
theorem left_1 (c : Dev nD) (t : Fin cfg0.N) : (dats m 0 c).after 1 t = iblk m c 1 t := by dsimp only [dats]
/-- What the body leaves in the convolution's bias window. -/
theorem left_2 (c : Dev nD) (t : Fin cfg0.N) : (dats m 0 c).after 2 t = iblk m c 2 t := by dsimp only [dats]
/-- What the body leaves in the score head's weight window. -/
theorem left_3 (c : Dev nD) (t : Fin cfg0.N) : (dats m 0 c).after 3 t = iblk m c 3 t := by dsimp only [dats]
/-- What the body leaves in the box head's weight window. -/
theorem left_4 (c : Dev nD) (t : Fin cfg0.N) : (dats m 0 c).after 4 t = iblk m c 4 t := by dsimp only [dats]
/-- What the body leaves in the score head's bias window. -/
theorem left_5 (c : Dev nD) (t : Fin cfg0.N) : (dats m 0 c).after 5 t = iblk m c 5 t := by dsimp only [dats]
/-- What the body leaves in the box head's bias window. -/
theorem left_6 (c : Dev nD) (t : Fin cfg0.N) : (dats m 0 c).after 6 t = iblk m c 6 t := by dsimp only [dats]
/-- What the body leaves in the score window. -/
theorem left_7 (c : Dev nD) (t : Fin cfg0.N) : (dats m 0 c).after 7 t = clsOf (outAt m c t) := by dsimp only [dats]
/-- What the body leaves in the box window. -/
theorem left_8 (c : Dev nD) (t : Fin cfg0.N) : (dats m 0 c).after 8 t = boxOf (outAt m c t) := by dsimp only [dats]

/-- What the body finds in the image window: its block. -/
theorem found_0 (c : Dev nD) (t : Fin cfg0.N) (d) : (dats m 0 c).before 0 t d = iblk m c 0 t :=
  before0_0_of m (dats m 0 c) (arrays_eq m c 0) (left_0 m c) t d
/-- What the body finds in the convolution's weight window: its block. -/
theorem found_1 (c : Dev nD) (t : Fin cfg0.N) (d) : (dats m 0 c).before 1 t d = iblk m c 1 t :=
  before0_1_of m (dats m 0 c) (arrays_eq m c 1) (left_1 m c) t d
/-- What the body finds in the convolution's bias window: its block. -/
theorem found_2 (c : Dev nD) (t : Fin cfg0.N) (d) : (dats m 0 c).before 2 t d = iblk m c 2 t :=
  before0_2_of m (dats m 0 c) (arrays_eq m c 2) (left_2 m c) t d
/-- What the body finds in the score head's weight window: its block. -/
theorem found_3 (c : Dev nD) (t : Fin cfg0.N) (d) : (dats m 0 c).before 3 t d = iblk m c 3 t :=
  before0_3_of m (dats m 0 c) (arrays_eq m c 3) (left_3 m c) t d
/-- What the body finds in the box head's weight window: its block. -/
theorem found_4 (c : Dev nD) (t : Fin cfg0.N) (d) : (dats m 0 c).before 4 t d = iblk m c 4 t :=
  before0_4_of m (dats m 0 c) (arrays_eq m c 4) (left_4 m c) t d
/-- What the body finds in the score head's bias window: its block. -/
theorem found_5 (c : Dev nD) (t : Fin cfg0.N) (d) : (dats m 0 c).before 5 t d = iblk m c 5 t :=
  before0_5_of m (dats m 0 c) (arrays_eq m c 5) (left_5 m c) t d
/-- What the body finds in the box head's bias window: its block. -/
theorem found_6 (c : Dev nD) (t : Fin cfg0.N) (d) : (dats m 0 c).before 6 t d = iblk m c 6 t :=
  before0_6_of m (dats m 0 c) (arrays_eq m c 6) (left_6 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The buffers after the body, as the proof data names them. -/
theorem body_end (c : Dev nD) (t : Fin cfg0.N) :
    St c (st0_0 t) (st0_1 t) (st0_2 t) (st0_3 t) (st0_4 t) (st0_5 t) (st0_6 t) (st0_7 t) (st0_8 t) scratch0 scratch1 scratch2 scratch3 (iblk m c 0 t) (iblk m c 1 t) (iblk m c 2 t) (iblk m c 3 t) (iblk m c 4 t) (iblk m c 5 t) (iblk m c 6 t) (clsOf (outAt m c t)) (boxOf (outAt m c t))
      (imgAt m c t) (planesAt m c t) (headsAt m c t) (biasAt m c t) iprop((∃ r, prngReg c r) ∗ (dats m 0 c).owesAt () t.castSucc)
      ⊢ bodyPost m c t := by
  unfold bodyPost
  rw [left_0, left_1, left_2, left_3, left_4, left_5, left_6, left_7, left_8,
    show (dats m 0 c).owesAt () t.succ = (dats m 0 c).owesAt () t.castSucc from rfl,
    show (dats m 0 c).Φ t.succ = iprop((owns (c : Thread nD τ) scratch0 fullShare (imgAt m c t) ∗ owns (c : Thread nD τ) scratch1 fullShare (planesAt m c t) ∗ owns (c : Thread nD τ) scratch2 fullShare (headsAt m c t) ∗ owns (c : Thread nD τ) scratch3 fullShare (biasAt m c t)) ∗ (∃ r, prngReg c r)) from rfl]
  iintro ⟨H0, H1, H2, H3, H4, H5, H6, H7, H8, S0, S1, S2, S3, Hg, Ho⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at point `t` from any contents of the scratch that a point which is not the first may find. -/
theorem body_at (c : Dev nD) (t : Fin cfg0.N) (y8 : Vec F S1x3x100x152 .f32) (y9 : Vec F S1x12x100x152 .f32)
    (X : Vec F S256x15744 .bf16) (W9 : Vec F S9x256x256 .bf16) (WH : Vec F S16x256 .bf16) (HB : Vec F S16x1 .f32)
    (hf : ¬ t.val = 0 → rows (iblk m c 0 t) X 100 = imgAt m c t ∧ W9 = planesAt m c t ∧ WH = headsAt m c t ∧ HB = biasAt m c t) :
    St c (st0_0 t) (st0_1 t) (st0_2 t) (st0_3 t) (st0_4 t) (st0_5 t) (st0_6 t) (st0_7 t) (st0_8 t) scratch0 scratch1 scratch2 scratch3 (iblk m c 0 t) (iblk m c 1 t) (iblk m c 2 t) (iblk m c 3 t) (iblk m c 4 t) (iblk m c 5 t) (iblk m c 6 t) y8 y9 X W9 WH HB
        iprop((∃ r, prngReg c r) ∗ (dats m 0 c).owesAt () t.castSucc)
      ⊢ wp frame (wpE (defs₀ (F := F)) Variants.none c none) Set.univ (bodyAt0 t) (fun _ => bodyPost m c t) := by
  by_cases h0 : t.val = 0
  · have h := (first_iff t).mpr h0
    exact (run_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) scratch0 (Memref.isWhole_whole _) scratch1 (Memref.isWhole_whole _) scratch2 (Memref.isWhole_whole _) scratch3 (Memref.isWhole_whole _) (iblk m c 0 t) (iblk m c 1 t) (iblk m c 2 t) (iblk m c 3 t) (iblk m c 4 t) (iblk m c 5 t) (iblk m c 6 t) y8 y9 X zeroImg W9 (planesAt m c t) WH (headsAt m c t) HB (biasAt m c t) _
      (fun _ => ⟨rfl, rfl, rfl, rfl⟩) (fun hn => absurd h hn)).trans (wp_mono _ _ _ fun _ => body_end m c t)
  · have h : ¬ first (grid0.coords t) := fun h => h0 ((first_iff t).mp h)
    obtain ⟨hX, rfl, rfl, rfl⟩ := hf h0
    have key := run_body (c := c) (E := Set.univ) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) scratch0 (Memref.isWhole_whole _) scratch1 (Memref.isWhole_whole _) scratch2 (Memref.isWhole_whole _) scratch3 (Memref.isWhole_whole _) (iblk m c 0 t) (iblk m c 1 t) (iblk m c 2 t) (iblk m c 3 t) (iblk m c 4 t) (iblk m c 5 t) (iblk m c 6 t) y8 y9 X X (planesAt m c t) (planesAt m c t) (headsAt m c t) (headsAt m c t) (biasAt m c t) (biasAt m c t) iprop((∃ r, prngReg c r) ∗ (dats m 0 c).owesAt () t.castSucc)
      (fun hn => absurd hn h) (fun _ => ⟨rfl, rfl, rfl, rfl⟩)
    rw [hX] at key
    exact key.trans (wp_mono _ _ _ fun _ => body_end m c t)

/-- The body at point `t`, from what the pipeline hands it. -/
theorem body_sound (c : Dev nD) (t : Fin cfg0.N) :
    bodyPre m c t ⊢ wp frame (wpE (defs₀ (F := F)) Variants.none c none) Set.univ (bodyAt0 t) (fun _ => bodyPost m c t) := by
  unfold bodyPre
  simp only [found_0, found_1, found_2, found_3, found_4, found_5, found_6]
  rw [show (dats m 0 c).Φ t.castSucc = between m c t.val (Nat.le_of_lt t.isLt) from rfl]
  obtain ⟨n, hn⟩ := t
  cases n with
  | zero =>
    rw [show between m c (Fin.val (⟨0, hn⟩ : Fin cfg0.N)) (Nat.le_of_lt hn) = Pipeline.ΦA spec0 c from rfl, start_eq]
    iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_at m c ⟨0, hn⟩ _ _ s0 s1 s2 s3 (fun h => absurd rfl h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [Hg]; · iexact Hg
    iexact Ho
  | succ n =>
    rw [show between m c (Fin.val (⟨n + 1, hn⟩ : Fin cfg0.N)) (Nat.le_of_lt hn) = iprop((owns (c : Thread nD τ) scratch0 fullShare (imgAt m c ⟨n, Nat.lt_of_succ_lt hn⟩) ∗ owns (c : Thread nD τ) scratch1 fullShare (planesAt m c ⟨n, Nat.lt_of_succ_lt hn⟩) ∗ owns (c : Thread nD τ) scratch2 fullShare (headsAt m c ⟨n, Nat.lt_of_succ_lt hn⟩) ∗ owns (c : Thread nD τ) scratch3 fullShare (biasAt m c ⟨n, Nat.lt_of_succ_lt hn⟩)) ∗ (∃ r, prngReg c r)) from rfl]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_at m c ⟨n + 1, hn⟩ _ _ _ _ _ _ (fun _ => ⟨rows_rows _ _ _ _, rfl, rfl, rfl⟩))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [Hg]; · iexact Hg
    iexact Ho

/-- The pipeline's call of the body at point `t` is the kernel's body there. -/
theorem body_row (t : Fin cfg0.N) : defs₀ (F := F) .tc cfg0.body (cfg0.bodyArgs t (cfg0.slots t)) = bodyAt0 t := by
  unfold defs₀; rw [Defs.onTc_tc]

/-- The body, at every point, does what the pipeline asks of it. -/
theorem body_does (c : Dev nD) : BodyObligation (dats (F := F) m 0 c) (defs₀ (F := F)) Variants.none () Set.univ := fun t => by
  rw [bigSep_W0, bigSep_W0, body_row]
  exact triple_restated (body_sound m c t) rfl .rfl fun _ => .rfl

/-- The launch starts at what is held before the first point. -/
theorem enter (c : Dev nD) : Pipeline.ΦA spec0 c ⊢ (dats m 0 c).Φ 0 := .rfl

/-- What is held after the last point is enough to end on. -/
theorem leave (c : Dev nD) : (dats m 0 c).Φ (Fin.last cfg0.N) ⊢ Pipeline.ΦA spec0 c := by
  have hN : (Fin.last cfg0.N).val = 4 + 1 := N_0
  have key : ∀ (n : ℕ) (h : n + 1 ≤ cfg0.N), between m c (n + 1) h ⊢ Pipeline.ΦA spec0 c := by
    intro n h
    rw [start_eq]
    unfold between
    iintro ⟨⟨S0, S1, S2, S3⟩, Hg⟩
    isplitl [S0 S1 S2 S3]
    · isplitl [S0]; · iexists _; iexact S0
      isplitl [S1]; · iexists _; iexact S1
      isplitl [S2]; · iexists _; iexact S2
      iexists _; iexact S3
    iexact Hg
  have e : ∀ (k : ℕ) (h : k ≤ cfg0.N), k = 4 + 1 → (between m c k h ⊢ Pipeline.ΦA spec0 c) := by
    rintro k h rfl
    exact key 4 h
  exact e _ _ hN

/-! ## The run -/

set_option backward.isDefEq.respectTransparency.types false in
/-- Every execution ends with the pipeline's arrays at what the proof data says, every other array as the region found it,
    and every semaphore counter at zero. -/
theorem run_ends : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_does m c).loose) (hshare := fun c => (dats m 0 c).share_full fun _ => rfl)
    (howed := fun _ _ => rfl) (V := V m) (hmain := hmain m Variants.none) (hA := arrays_eq m) (hin := enter m) (hout := leave m)

/-- Every execution ends with the arguments unchanged and every semaphore counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (arrays_eq m) ((θ_run defs _ _).mono (fun _ h => h.1) (run_ends m ρ)))
    ((θ_run defs _ _).mono (fun _ h => h.2) (run_ends m ρ))

end Cert.KernelIdeal.Body
-- ==== Proof.Spec.lean ====
/- The two results as plain formulas of the seven arguments: a 3x3 convolution of the zero-padded images with its bias, the
   maximum with zero, then two 1x1 convolutions with their biases. -/
module

public import Idealize.ShloMosaic.Lib.Pointwise
public import Idealize.ShloMosaic.PureOps.Ideal.Laws

@[expose] public section

noncomputable section

namespace Cert.Spec

open Idealize.ShloMosaic

/-- Entry `(H, W)` of channel `i` of image `l` with one row and one column of zeros on each side. -/
def padded (x : FVec Ideal ⟨4, ![5, 256, 100, 152]⟩ .f32) (l : Fin 5) (i : Fin 256) (H W : ℕ) : EReal :=
  if 1 ≤ H ∧ H < 101 ∧ 1 ≤ W ∧ W < 153 then x (ix4 l i (Fin.ofNat 100 (H - 1)) (Fin.ofNat 152 (W - 1))) else 0

/-- One of the nine shifted products of the convolution, at output channel `o` and position `(h, w)`. -/
def tap (x : FVec Ideal ⟨4, ![5, 256, 100, 152]⟩ .f32) (k : FVec Ideal ⟨4, ![256, 256, 3, 3]⟩ .f32)
    (l : Fin 5) (o : Fin 256) (h w a b : ℕ) : EReal :=
  ∑ i : Fin 256, padded x l i (a + h) (b + w) * k (ix4 o i (Fin.ofNat 3 a) (Fin.ofNat 3 b))

/-- The convolution: the nine products added up row by row of the 3x3 kernel, from zero. -/
def conv (x : FVec Ideal ⟨4, ![5, 256, 100, 152]⟩ .f32) (k : FVec Ideal ⟨4, ![256, 256, 3, 3]⟩ .f32)
    (l : Fin 5) (o : Fin 256) (h w : ℕ) : EReal :=
  0 + tap x k l o h w 0 0 + tap x k l o h w 0 1 + tap x k l o h w 0 2
    + tap x k l o h w 1 0 + tap x k l o h w 1 1 + tap x k l o h w 1 2
    + tap x k l o h w 2 0 + tap x k l o h w 2 1 + tap x k l o h w 2 2

/-- The hidden layer: the convolution plus its bias, cut off below at zero. -/
def hidden (x : FVec Ideal ⟨4, ![5, 256, 100, 152]⟩ .f32) (k : FVec Ideal ⟨4, ![256, 256, 3, 3]⟩ .f32)
    (b : FVec Ideal ⟨1, ![256]⟩ .f32) (l : Fin 5) (o : Fin 256) (h w : ℕ) : EReal :=
  max (conv x k l o h w + b (ix1 o)) 0

/-- A head with `n` outputs at one output `a` and one position: the hidden layer against the head's weights, plus its bias. -/
def head {n : ℕ} (x : FVec Ideal ⟨4, ![5, 256, 100, 152]⟩ .f32) (k : FVec Ideal ⟨4, ![256, 256, 3, 3]⟩ .f32)
    (b : FVec Ideal ⟨1, ![256]⟩ .f32) (g : FVec Ideal ⟨4, ![n, 256, 1, 1]⟩ .f32) (d : FVec Ideal ⟨1, ![n]⟩ .f32)
    (l : Fin 5) (a : Fin n) (h w : ℕ) : EReal :=
  (∑ o : Fin 256, hidden x k b l o h w * g (ix4 a o 0 0)) + d (ix1 a)

end Cert.Spec

end
-- ==== Proof.KernelIdealValue.lean ====
/- What the kernel's buffers hold, entry by entry, at the ideal floats. -/
module

public import proofs.«01_k».proof.Proof.KernelIdealForms
public import proofs.«01_k».proof.Proof.Spec

@[expose] public section

set_option maxRecDepth 16384

noncomputable section

namespace Cert.KernelIdeal.Body

open Idealize.ShloMosaic Idealize.ShloMosaic.TcCoe Idealize.SL.Sem Cert.KernelIdeal.Gen

/-- The library's two spellings of a pair of coordinates are the same index. -/
theorem ix2_same {n0 n1 : ℕ} (a : Fin n0) (b : Fin n1) : ValueIdx.ix2 a b = ix2 a b := eq_ix2 _

/-- The library's two spellings of a triple of coordinates are the same index. -/
theorem ix3_same {n0 n1 n2 : ℕ} (a : Fin n0) (b : Fin n1) (c : Fin n2) : ValueIdx.ix3 a b c = ix3 a b c := eq_ix3 _

/-- One product read at an entry: the plane's row against the image's column. -/
theorem tapDot_read (W9 : FVec Ideal S9x256x256 .bf16) (X : FVec Ideal S256x15744 .bf16) (d p : ℕ) (o : Fin 256) (q : Fin 1540) :
    tapDot (F := Ideal) W9 X d p (ix2 o q) = ∑ i : Fin 256, W9 (ix3 (Fin.ofNat 9 d) o i) * X (ix2 i (Fin.ofNat 15744 (p + q))) := by
  pointwise [tapDot, planeLd, tapLd, ix2_same, ix3_same]

/-- The stacked heads at an entry of a block. -/
theorem block_read (X : FVec Ideal S256x15744 .bf16) (W9 : FVec Ideal S9x256x256 .bf16) (WH : FVec Ideal S16x256 .bf16)
    (HB : FVec Ideal S16x1 .f32) (x2 : FVec Ideal S256x1 .f32) (b : ℕ) (r : Fin 16) (q : Fin 1540) :
    block (F := Ideal) X W9 WH HB x2 b (ix2 r q)
      = (∑ o : Fin 256, WH (ix2 r o) * max (convSum W9 X (1540 * b) (ix2 o q) + x2 (ix2 o 0)) 0) + HB (ix2 r 0) := by
  pointwise [block]

/-- The nine products at an entry. -/
theorem convSum_read (X : FVec Ideal S256x15744 .bf16) (W9 : FVec Ideal S9x256x256 .bf16) (p : ℕ) (o : Fin 256) (q : Fin 1540) :
    convSum (F := Ideal) W9 X p (ix2 o q) = 0 + tapDot W9 X 0 p (ix2 o q) + tapDot W9 X 1 (p + 1) (ix2 o q)
      + tapDot W9 X 2 (p + 2) (ix2 o q) + tapDot W9 X 3 (p + 154) (ix2 o q) + tapDot W9 X 4 (p + 155) (ix2 o q)
      + tapDot W9 X 5 (p + 156) (ix2 o q) + tapDot W9 X 6 (p + 308) (ix2 o q) + tapDot W9 X 7 (p + 309) (ix2 o q)
      + tapDot W9 X 8 (p + 310) (ix2 o q) := by
  pointwise [convSum]

/-- A copied image row at an entry. -/
theorem row_read (x0 : FVec Ideal S1x256x15200 .f32) (j : ℕ) (i : Fin 256) (w : Fin 152) :
    rowPay (F := Ideal) (rowLd x0 j) (ix2 i w) = x0 (ix3 0 i (Fin.ofNat 15200 (152 * j + w))) := by
  pointwise [rowPay, rowLd, ix3_same]

/-- The zero image. -/
theorem zeroImg_read (i : Fin 256) (w : Fin 15744) : zeroImg (F := Ideal) (ix2 i w) = (0 : EReal) := by
  pointwise [zeroImg]

/-- A plane of the weights at an entry: one entry of the flattened weights. -/
theorem plane_read (x1 : FVec Ideal S256x2304 .f32) (d : Fin 9) (o i : Fin 256) :
    planeOf (F := Ideal) x1 (BitVec.ofNat 32 d) (ix3 0 o i) = x1 (ix2 o (Fin.ofNat 2304 (9 * i + d))) := by
  pointwise [planeOf, pick]
  have hd : (d : ℕ) < 9 := d.isLt
  have hi : (i : ℕ) < 256 := i.isLt
  have hn : ((Fin.ofNat 2304 (9 * (i : ℕ) + (d : ℕ)) : Fin 2304) : ℕ) = 9 * i + d := Nat.mod_eq_of_lt (by omega)
  have hsel : ∀ x : Fin 2304, IntOp.cmpi CmpIPredicate.eq (BitVec.ofNat 32 (x : ℕ))
      (IntOp.addi (IntOp.muli (BitVec.ofNat 32 (i : ℕ)) 9#32) (BitVec.ofNat 32 (d : ℕ)))
        = if x = Fin.ofNat 2304 (9 * (i : ℕ) + (d : ℕ)) then 1#1 else 0#1 := by
    intro x
    have hx : (x : ℕ) < 2304 := x.isLt
    have e : IntOp.addi (IntOp.muli (BitVec.ofNat 32 (i : ℕ)) 9#32) (BitVec.ofNat 32 (d : ℕ)) = BitVec.ofNat 32 (9 * (i : ℕ) + (d : ℕ)) := by
      apply BitVec.eq_of_toNat_eq
      simp only [IntOp.addi, IntOp.muli, BitVec.toNat_add, BitVec.toNat_mul, BitVec.toNat_ofNat]
      omega
    rw [e]
    by_cases h : x = Fin.ofNat 2304 (9 * (i : ℕ) + (d : ℕ))
    · rw [if_pos h, show (x : ℕ) = 9 * i + d from (congrArg Fin.val h).trans hn]
      simp [IntOp.cmpi]
    · rw [if_neg h]
      have hne : (x : ℕ) ≠ 9 * i + d := fun h' => h (Fin.ext (h'.trans hn.symm))
      have : BitVec.ofNat 32 (x : ℕ) ≠ BitVec.ofNat 32 (9 * (i : ℕ) + (d : ℕ)) := by
        intro h'
        have := congrArg BitVec.toNat h'
        simp only [BitVec.toNat_ofNat] at this
        omega
      show BitVec.ofBool (BitVec.ofNat 32 (x : ℕ) == BitVec.ofNat 32 (9 * (i : ℕ) + (d : ℕ))) = 0#1
      rw [beq_eq_false_iff_ne.2 this]
      rfl
  rw [Finset.sum_eq_single (Fin.ofNat 2304 (9 * (i : ℕ) + (d : ℕ)))]
  · rw [hsel, if_pos rfl]; rfl
  · intro x _ hx
    rw [hsel, if_neg hx]; rfl
  · exact fun h => absurd (Finset.mem_univ _) h

/-- The padded image the copied rows make, at the entry of row `H` and column `W` of the padded image. -/
theorem image_read (x0 : FVec Ideal S1x256x15200 .f32) (i : Fin 256) (H W n : ℕ) (hH : H < 102) (hW : W < 154) (hn : n = 154 * H + W) :
    rows (F := Ideal) x0 (zeroImg (F := Ideal)) 100 (ix2 i (Fin.ofNat 15744 n))
      = if 1 ≤ H ∧ H < 101 ∧ 1 ≤ W ∧ W < 153 then x0 (ix3 0 i (Fin.ofNat 15200 (152 * (H - 1) + (W - 1)))) else (0 : EReal) := by
  have hv : ((Fin.ofNat 15744 n : Fin 15744) : ℕ) = 154 * H + W := (Nat.mod_eq_of_lt (by omega)).trans hn
  show (if 155 ≤ ((Fin.ofNat 15744 n : Fin 15744) : ℕ) ∧ (((Fin.ofNat 15744 n : Fin 15744) : ℕ) - 155) % 154 < 152
      ∧ (((Fin.ofNat 15744 n : Fin 15744) : ℕ) - 155) / 154 < 100 then
      rowPay (F := Ideal) (rowLd (F := Ideal) x0 ((((Fin.ofNat 15744 n : Fin 15744) : ℕ) - 155) / 154))
        (ValueIdx.ix2 i (Fin.ofNat 152 ((((Fin.ofNat 15744 n : Fin 15744) : ℕ) - 155) % 154)))
      else zeroImg (ix2 i (Fin.ofNat 15744 n))) = _
  rw [hv, ix2_same, row_read, zeroImg_read]
  by_cases h : 1 ≤ H ∧ H < 101 ∧ 1 ≤ W ∧ W < 153
  · have e1 : (154 * H + W - 155) / 154 = H - 1 := by omega
    have e2 : (154 * H + W - 155) % 154 = W - 1 := by omega
    rw [if_pos (by omega), if_pos h, e1, e2]
    congr 3
    exact congrArg (152 * (H - 1) + ·) (Nat.mod_eq_of_lt (by omega))
  · rw [if_neg (by omega), if_neg h]

section heads

variable (x3 : FVec Ideal S3x256 .f32) (x4 : FVec Ideal S12x256 .f32) (x5 : FVec Ideal S3x1 .f32) (x6 : FVec Ideal S12x1 .f32)

/-- The stacked row of a score. -/
theorem score_row (a : Fin 3) : ((Fin.ofNat 16 (a : ℕ) : Fin 16) : ℕ) = a := Nat.mod_eq_of_lt (by omega)

/-- The stacked row of a box entry. -/
theorem box_row (a : Fin 12) : ((Fin.ofNat 16 (3 + (a : ℕ)) : Fin 16) : ℕ) = 3 + a := Nat.mod_eq_of_lt (by omega)

/-- A bounded number made from its own value. -/
theorem ofNat_val {n : ℕ} [NeZero n] (a : Fin n) : Fin.ofNat n (a : ℕ) = a := Fin.ext (Nat.mod_eq_of_lt a.isLt)

/-- The score rows of the stacked heads are the score head's weights. -/
theorem wh_score_read (a : Fin 3) (o : Fin 256) : whOf (F := Ideal) x3 x4 (ix2 (Fin.ofNat 16 a) o) = x3 (ix2 a o) := by
  pointwise [whOf, headA]
  rw [if_pos (by rw [score_row]; omega), score_row, ofNat_val, ix2_same]

/-- The box rows of the stacked heads are the box head's weights. -/
theorem wh_box_read (a : Fin 12) (o : Fin 256) : whOf (F := Ideal) x3 x4 (ix2 (Fin.ofNat 16 (3 + a)) o) = x4 (ix2 a o) := by
  pointwise [whOf, headB]
  rw [if_neg (by rw [box_row]; omega), if_pos (by rw [box_row]; omega), box_row, Nat.add_sub_cancel_left, ofNat_val, ix2_same]

/-- The score entries of the stacked biases are the score head's bias. -/
theorem hb_score_read (a : Fin 3) : hbOf (F := Ideal) x5 x6 (ix2 (Fin.ofNat 16 a) 0) = x5 (ix2 a 0) := by
  pointwise [hbOf]
  rw [if_pos (by rw [score_row]; omega), score_row, ofNat_val, ix2_same]

/-- The box entries of the stacked biases are the box head's bias. -/
theorem hb_box_read (a : Fin 12) : hbOf (F := Ideal) x5 x6 (ix2 (Fin.ofNat 16 (3 + a)) 0) = x6 (ix2 a 0) := by
  pointwise [hbOf]
  rw [if_neg (by rw [box_row]; omega), if_pos (by rw [box_row]; omega), box_row, Nat.add_sub_cancel_left, ofNat_val, ix2_same]

end heads

section formula

variable (A0 : FVec Ideal S5x256x100x152 .f32) (A1 : FVec Ideal S256x256x3x3 .f32) (A2 : FVec Ideal S256 .f32)
  (x0 : FVec Ideal S1x256x15200 .f32) (x1 : FVec Ideal S256x2304 .f32) (x2 : FVec Ideal S256x1 .f32) (l : Fin 5)

/-- One product of a block, at the column of row `h` and column `w`, is the shifted product of the plain formula. -/
theorem tap_read (h0 : ∀ i (n : Fin 15200), x0 (ix3 0 i n) = A0 (ix4 l i (Fin.ofNat 100 (n / 152)) (Fin.ofNat 152 (n % 152))))
    (h1 : ∀ o (n : Fin 2304), x1 (ix2 o n) = A1 (ix4 o (Fin.ofNat 256 (n / 9)) (Fin.ofNat 3 (n % 9 / 3)) (Fin.ofNat 3 (n % 3))))
    (o : Fin 256) (h : Fin 100) (w : Fin 152) (a b : ℕ) (ha : a < 3) (hb : b < 3) (d p : ℕ) (hd : d = 3 * a + b)
    (hp : p = 1540 * (h / 10) + (154 * a + b)) :
    tapDot (F := Ideal) (w9Of x1) (rows x0 (zeroImg (F := Ideal)) 100) d p (ix2 o (Fin.ofNat 1540 (154 * (h % 10) + w)))
      = Spec.tap A0 A1 l o h w a b := by
  rw [tapDot_read]
  refine Finset.sum_congr rfl fun i _ => ?_
  rw [mul_comm]
  have hq : ((Fin.ofNat 1540 (154 * ((h : ℕ) % 10) + (w : ℕ)) : Fin 1540) : ℕ) = 154 * (h % 10) + w := Nat.mod_eq_of_lt (by omega)
  have hd9 : ((Fin.ofNat 9 d : Fin 9) : ℕ) = 3 * a + b := (Nat.mod_eq_of_lt (by omega)).trans hd
  refine congrArg₂ (· * · : EReal → EReal → EReal) ?_ ?_
  · rw [image_read x0 i (a + h) (b + w) _ (by omega) (by omega) (by rw [hq, hp]; omega)]
    unfold Spec.padded
    by_cases hc : 1 ≤ a + (h : ℕ) ∧ a + (h : ℕ) < 101 ∧ 1 ≤ b + (w : ℕ) ∧ b + (w : ℕ) < 153
    · rw [if_pos hc, if_pos hc, h0]
      have hm : ((Fin.ofNat 15200 (152 * (a + (h : ℕ) - 1) + (b + (w : ℕ) - 1)) : Fin 15200) : ℕ)
          = 152 * (a + h - 1) + (b + w - 1) := Nat.mod_eq_of_lt (by omega)
      rw [hm, show (152 * (a + (h : ℕ) - 1) + (b + (w : ℕ) - 1)) / 152 = a + h - 1 by omega,
        show (152 * (a + (h : ℕ) - 1) + (b + (w : ℕ) - 1)) % 152 = b + w - 1 by omega]
    · rw [if_neg hc, if_neg hc]
  · show planeOf (F := Ideal) x1 (BitVec.ofNat 32 ((Fin.ofNat 9 d : Fin 9) : ℕ)) (ValueIdx.ix3 0 o i) = _
    rw [ix3_same, plane_read, h1]
    have hm : ((Fin.ofNat 2304 (9 * (i : ℕ) + ((Fin.ofNat 9 d : Fin 9) : ℕ)) : Fin 2304) : ℕ) = 9 * i + (3 * a + b) :=
      (Nat.mod_eq_of_lt (by rw [hd9]; omega)).trans (by rw [hd9])
    rw [hm, show (9 * (i : ℕ) + (3 * a + b)) / 9 = i by omega, show (9 * (i : ℕ) + (3 * a + b)) % 9 / 3 = a by omega, ofNat_val]
    congr 2
    exact Fin.ext (by show (9 * (i : ℕ) + (3 * a + b)) % 3 % 3 = b % 3; omega)

/-- The stacked heads at a row and the column of row `h` and column `w`, from what the weights and the bias of that row are. -/
theorem head_read {n : ℕ} (g : FVec Ideal ⟨4, ![n, 256, 1, 1]⟩ .f32) (d : FVec Ideal ⟨1, ![n]⟩ .f32) (a : Fin n)
    (h0 : ∀ i (n : Fin 15200), x0 (ix3 0 i n) = A0 (ix4 l i (Fin.ofNat 100 (n / 152)) (Fin.ofNat 152 (n % 152))))
    (h1 : ∀ o (n : Fin 2304), x1 (ix2 o n) = A1 (ix4 o (Fin.ofNat 256 (n / 9)) (Fin.ofNat 3 (n % 9 / 3)) (Fin.ofNat 3 (n % 3))))
    (h2 : ∀ o, x2 (ix2 o 0) = A2 (ix1 o)) (WH : FVec Ideal S16x256 .bf16) (HB : FVec Ideal S16x1 .f32) (r : Fin 16)
    (h3 : ∀ o, WH (ix2 r o) = g (ix4 a o 0 0)) (h4 : HB (ix2 r 0) = d (ix1 a)) (h : Fin 100) (w : Fin 152) :
    block (F := Ideal) (rows x0 (zeroImg (F := Ideal)) 100) (w9Of x1) WH HB x2 (h / 10) (ix2 r (Fin.ofNat 1540 (154 * (h % 10) + w)))
      = Spec.head A0 A1 A2 g d l a h w := by
  rw [block_read, h4]
  unfold Spec.head
  refine congrArg (· + d (ix1 a) : EReal → EReal) (Finset.sum_congr rfl fun o _ => ?_)
  rw [h3, mul_comm, h2, convSum_read]
  have t := tap_read A0 A1 x0 x1 l h0 h1 o h w
  rw [t 0 0 (by omega) (by omega) _ _ (by omega) (by omega), t 0 1 (by omega) (by omega) _ _ (by omega) (by omega),
    t 0 2 (by omega) (by omega) _ _ (by omega) (by omega), t 1 0 (by omega) (by omega) _ _ (by omega) (by omega),
    t 1 1 (by omega) (by omega) _ _ (by omega) (by omega), t 1 2 (by omega) (by omega) _ _ (by omega) (by omega),
    t 2 0 (by omega) (by omega) _ _ (by omega) (by omega), t 2 1 (by omega) (by omega) _ _ (by omega) (by omega),
    t 2 2 (by omega) (by omega) _ _ (by omega) (by omega)]
  rfl

end formula

end Cert.KernelIdeal.Body

end
-- ==== Proof.KernelIdealResult.lean ====
/- The kernel's two result arrays are the plain formulas of its arguments. -/
module

public import proofs.«01_k».proof.Proof.KernelIdealFrame
public import proofs.«01_k».proof.Proof.KernelIdealValue
public import Idealize.ShloMosaic.Lib.Pipeline.ValueKit
public import Idealize.ShloMosaic.Lib.Claim

@[expose] public section

set_option maxRecDepth 16384

noncomputable section

namespace Cert.KernelIdeal.Body

open Idealize.ShloMosaic Idealize.ShloMosaic.TcCoe Idealize.SL.Sem Cert.KernelIdeal.Gen
open Idealize.ShloMosaic.Pipeline (Dat)

variable (m : (ℓ : Loc nD τ sig) → Buf (Elt Ideal) ℓ)

/-- Where each window's block lies: the image and the two outputs at the level, every other at the origin. -/
theorem block_place : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0, 0] ∧ win0_8.index t = ![t.val, 0, 0, 0] :=
  (by decide +kernel : ∀ t : Fin grid0.N, _)

/-- The level of a grid point. -/
def level (t : Fin cfg0.N) : Fin 5 := ⟨t.val, Nat.lt_of_lt_of_eq t.isLt N_0⟩

/-- The image block at a point: its level of the image argument, row after row. -/
theorem image_block (c : Dev nD) (t : Fin cfg0.N) (i : Fin 256) (n : Fin 15200) :
    (iblk m c 0 t : FVec Ideal S1x256x15200 .f32) (ix3 0 i n)
      = (m ((c : Thread nD τ).loc main_arg0) : FVec Ideal S5x256x100x152 .f32) (ix4 (level t) i (Fin.ofNat 100 (n / 152)) (Fin.ofNat 152 (n % 152))) := by
  blk_simp [iblk, block_place t]
  entry_read
  pointwise
  blk_ext [level, block_place t, Fin.val_ofNat]

/-- The weight block at a point: the convolution's weights, flattened. -/
theorem weight_block (c : Dev nD) (t : Fin cfg0.N) (o : Fin 256) (n : Fin 2304) :
    (iblk m c 1 t : FVec Ideal S256x2304 .f32) (ix2 o n)
      = (m ((c : Thread nD τ).loc main_arg1) : FVec Ideal S256x256x3x3 .f32)
          (ix4 o (Fin.ofNat 256 (n / 9)) (Fin.ofNat 3 (n % 9 / 3)) (Fin.ofNat 3 (n % 3))) := by
  blk_simp [iblk, block_place t]
  entry_read
  pointwise
  blk_ext [level, block_place t, Fin.val_ofNat]

/-- The convolution's bias block at a point. -/
theorem bias_block (c : Dev nD) (t : Fin cfg0.N) (o : Fin 256) :
    (iblk m c 2 t : FVec Ideal S256x1 .f32) (ix2 o 0) = (m ((c : Thread nD τ).loc main_arg2) : FVec Ideal S256 .f32) (ix1 o) := by
  blk_simp [iblk, block_place t]
  entry_read
  pointwise
  blk_ext [block_place t]

/-- The score head's weight block at a point. -/
theorem score_weight_block (c : Dev nD) (t : Fin cfg0.N) (a : Fin 3) (o : Fin 256) :
    (iblk m c 3 t : FVec Ideal S3x256 .f32) (ix2 a o) = (m ((c : Thread nD τ).loc main_arg3) : FVec Ideal S3x256x1x1 .f32) (ix4 a o 0 0) := by
  blk_simp [iblk, block_place t]
  entry_read
  pointwise
  blk_ext [block_place t]

/-- The box head's weight block at a point. -/
theorem box_weight_block (c : Dev nD) (t : Fin cfg0.N) (a : Fin 12) (o : Fin 256) :
    (iblk m c 4 t : FVec Ideal S12x256 .f32) (ix2 a o) = (m ((c : Thread nD τ).loc main_arg5) : FVec Ideal S12x256x1x1 .f32) (ix4 a o 0 0) := by
  blk_simp [iblk, block_place t]
  entry_read
  pointwise
  blk_ext [block_place t]

/-- The score head's bias block at a point. -/
theorem score_bias_block (c : Dev nD) (t : Fin cfg0.N) (a : Fin 3) :
    (iblk m c 5 t : FVec Ideal S3x1 .f32) (ix2 a 0) = (m ((c : Thread nD τ).loc main_arg4) : FVec Ideal S3 .f32) (ix1 a) := by
  blk_simp [iblk, block_place t]
  entry_read
  pointwise
  blk_ext [block_place t]

/-- The box head's bias block at a point. -/
theorem box_bias_block (c : Dev nD) (t : Fin cfg0.N) (a : Fin 12) :
    (iblk m c 6 t : FVec Ideal S12x1 .f32) (ix2 a 0) = (m ((c : Thread nD τ).loc main_arg6) : FVec Ideal S12 .f32) (ix1 a) := by
  blk_simp [iblk, block_place t]
  entry_read
  pointwise
  blk_ext [block_place t]

/-- The scores the kernel is to leave: the plain formula of its arguments. -/
def scores (c : Dev nD) : FVec Ideal S5x3x100x152 .f32 := fun i =>
  Spec.head (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2).val (i 3).val

/-- The box regressions the kernel is to leave: the plain formula of its arguments. -/
def boxes (c : Dev nD) : FVec Ideal S5x12x100x152 .f32 := fun i =>
  Spec.head (m ((c : Thread nD τ).loc main_arg0)) (m ((c : Thread nD τ).loc main_arg1)) (m ((c : Thread nD τ).loc main_arg2))
    (m ((c : Thread nD τ).loc main_arg5)) (m ((c : Thread nD τ).loc main_arg6)) (i 0) (i 1) (i 2).val (i 3).val

/-- The score block the body leaves at a point, at an entry. -/
theorem score_at (c : Dev nD) (t : Fin cfg0.N) (z : Fin 1) (a : Fin 3) (h : Fin 100) (w : Fin 152) :
    clsOf (F := Ideal) (outAt m c t) (ix4 z a h w) = scores m c (ix4 (level t) a h w) := by
  unfold clsOf
  rw [ix2_same]
  exact head_read _ _ _ (iblk m c 0 t) (iblk m c 1 t) (iblk m c 2 t) (level t) _ _ a (image_block m c t) (weight_block m c t) (bias_block m c t)
    (headsAt m c t) (biasAt m c t) (Fin.ofNat 16 a)
    (fun o => (wh_score_read (iblk m c 3 t) (iblk m c 4 t) a o).trans (score_weight_block m c t a o))
    ((hb_score_read (iblk m c 5 t) (iblk m c 6 t) a).trans (score_bias_block m c t a)) h w

/-- The box block the body leaves at a point, at an entry. -/
theorem box_at (c : Dev nD) (t : Fin cfg0.N) (z : Fin 1) (a : Fin 12) (h : Fin 100) (w : Fin 152) :
    boxOf (F := Ideal) (outAt m c t) (ix4 z a h w) = boxes m c (ix4 (level t) a h w) := by
  unfold boxOf
  rw [ix2_same]
  exact head_read _ _ _ (iblk m c 0 t) (iblk m c 1 t) (iblk m c 2 t) (level t) _ _ a (image_block m c t) (weight_block m c t) (bias_block m c t)
    (headsAt m c t) (biasAt m c t) (Fin.ofNat 16 (3 + a))
    (fun o => (wh_box_read (iblk m c 3 t) (iblk m c 4 t) a o).trans (box_weight_block m c t a o))
    ((hb_box_read (iblk m c 5 t) (iblk m c 6 t) a).trans (box_bias_block m c t a)) h w

/-- The score array after the run. -/
theorem scores_final (c : Dev nD) : (dats (F := Ideal) m 0 c).arrAt 7 cfg0.N = scores m c := by
  refine (dats (F := Ideal) m 0 c).arrAt_eq_of_covers 7 _ (by decide +kernel) fun t _ y => ?_
  blk_simp
  rw [left_7]
  have e : ∀ y : S1x3x100x152.Idx, clsOf (F := Ideal) (outAt m c t) y = _ := fun y =>
    (congrArg _ (eq_ix4 y)).trans (score_at m c t (y 0) (y 1) (y 2) (y 3))
  refine (e y).trans ?_
  blk_ext [level, block_place t]

/-- The box array after the run. -/
theorem boxes_final (c : Dev nD) : (dats (F := Ideal) m 0 c).arrAt 8 cfg0.N = boxes m c := by
  refine (dats (F := Ideal) m 0 c).arrAt_eq_of_covers 8 _ (by decide +kernel) fun t _ y => ?_
  blk_simp
  rw [left_8]
  have e : ∀ y : S1x12x100x152.Idx, boxOf (F := Ideal) (outAt m c t) y = _ := fun y =>
    (congrArg _ (eq_ix4 y)).trans (box_at m c t (y 0) (y 1) (y 2) (y 3))
  refine (e y).trans ?_
  blk_ext [level, block_place t]

end Cert.KernelIdeal.Body

end
-- ==== Proof.ReferenceValue.lean ====
/- The reference's two results are the plain formulas, entry by entry. -/
module

public import proofs.«01_k».proof.Proof.Spec
public import proofs.«01_k».proof.Proof.Gen.ReferenceIdeal.Read

@[expose] public section

set_option maxRecDepth 16384

noncomputable section

namespace Cert.ReferenceIdeal.Plain

open Idealize.ShloMosaic Idealize.ShloMosaic.TcCoe Idealize.SL.Sem
open Cert.ReferenceIdeal Cert.ReferenceIdeal.Gen Cert.ReferenceIdeal.Read Cert.Spec

/-- The padded images read at an entry. -/
theorem pad_read (x : FVec Ideal S5x256x100x152 .f32) (l : Fin 5) (i : Fin 256) (H : Fin 102) (W : Fin 154) :
    val_main_v0 (F := Ideal) x (ix4 l i H W) = padded x l i H W := by
  pointwise [val_main_v0, padded]
  have e : val_main_call0_v0 (F := Ideal) (Shape.Idx.first h_S_) = (0 : EReal) := by
    show (((0#32 : BitVec 32).toInt : ℝ) : EReal) = 0
    simp
  by_cases h : 1 ≤ (H : ℕ) ∧ (H : ℕ) < 101 ∧ 1 ≤ (W : ℕ) ∧ (W : ℕ) < 153
  · rw [dif_pos (by omega), if_pos h]
    congr 2
    · exact Fin.ext (Nat.mod_eq_of_lt (by omega)).symm
    · exact Fin.ext (Nat.mod_eq_of_lt (by omega)).symm
  · rw [dif_neg (by omega), if_neg h, e]

/-- One shifted product of the reference, for any shift: slice, contract, move the channel axis back. -/
theorem tap_read (a b : ℕ) (ha : a < 3) (hb : b < 3) (hk : S256x256x3x3.Slices ![0, 0, a, b] S256x256x1x1)
    (hx : S5x256x102x154.Slices ![0, 0, a, b] S5x256x100x152)
    (x : FVec Ideal S5x256x100x152 .f32) (k : FVec Ideal S256x256x3x3 .f32) (l : Fin 5) (o : Fin 256) (h : Fin 100) (w : Fin 152) :
    transpose S5x256x100x152 [0, 3, 1, 2] (Host.dotGeneral (φ₁ := .f32) (φ₂ := .f32) dot_S5x256x100x152_S256x256_S5x100x152x256_1_1_023_0_n_n none
      (extractStridedSlice S5x256x100x152 ![0, 0, a, b] (val_main_v0 (F := Ideal) x : FVec Ideal S5x256x102x154 .f32) hx)
      (shapeCast S256x256 (extractStridedSlice S256x256x1x1 ![0, 0, a, b] k hk) shapeCasts_S256x256x1x1_S256x256))
      transposes_S5x100x152x256_S5x256x100x152_0_3_1_2 (ix4 l o h w) = tap x k l o h w a b := by
  pointwise [tap, pad_read]
  refine Finset.sum_congr rfl fun i _ => ?_
  congr 3
  · exact Fin.ext (Nat.mod_eq_of_lt ha).symm
  · exact Fin.ext (Nat.mod_eq_of_lt hb).symm

/-- The convolution's sum, as the reference adds it up. -/
theorem conv_read (x : FVec Ideal S5x256x100x152 .f32) (k : FVec Ideal S256x256x3x3 .f32) (l : Fin 5) (o : Fin 256) (h : Fin 100) (w : Fin 152) :
    val_main_v55 (F := Ideal) x k (ix4 l o h w) = conv x k l o h w := by
  have z : val_main_v6 (F := Ideal) (ix4 l o h w) = (0 : EReal) := by
    pointwise [val_main_v6, val_main_cst]
  have t : ∀ (a b : ℕ) (ha : a < 3) (hb : b < 3) (hk : S256x256x3x3.Slices ![0, 0, a, b] S256x256x1x1)
      (hx : S5x256x102x154.Slices ![0, 0, a, b] S5x256x100x152), _ :=
    fun a b ha hb hk hx => tap_read a b ha hb hk hx x k l o h w
  exact congrArg₂ (· + · : EReal → EReal → EReal) (congrArg₂ (· + · : EReal → EReal → EReal) (congrArg₂ (· + · : EReal → EReal → EReal)
    (congrArg₂ (· + · : EReal → EReal → EReal) (congrArg₂ (· + · : EReal → EReal → EReal) (congrArg₂ (· + · : EReal → EReal → EReal)
    (congrArg₂ (· + · : EReal → EReal → EReal) (congrArg₂ (· + · : EReal → EReal → EReal) (congrArg₂ (· + · : EReal → EReal → EReal)
      z (t 0 0 (by omega) (by omega) _ _)) (t 0 1 (by omega) (by omega) _ _)) (t 0 2 (by omega) (by omega) _ _))
      (t 1 0 (by omega) (by omega) _ _)) (t 1 1 (by omega) (by omega) _ _)) (t 1 2 (by omega) (by omega) _ _))
      (t 2 0 (by omega) (by omega) _ _)) (t 2 1 (by omega) (by omega) _ _)) (t 2 2 (by omega) (by omega) _ _)

/-- The hidden layer of the reference. -/
theorem hidden_read (x : FVec Ideal S5x256x100x152 .f32) (k : FVec Ideal S256x256x3x3 .f32) (b : FVec Ideal S256 .f32)
    (l : Fin 5) (o : Fin 256) (h : Fin 100) (w : Fin 152) :
    val_main_v60 (F := Ideal) x k b (ix4 l o h w) = Spec.hidden x k b l o h w := by
  pointwise [val_main_v60, val_main_v59, val_main_v58, val_main_v57, val_main_v56, val_main_cst_0, Spec.hidden, conv_read]

/-- The reference's scores are the score head of the plain formula. -/
theorem score_read (x : FVec Ideal S5x256x100x152 .f32) (k : FVec Ideal S256x256x3x3 .f32) (b : FVec Ideal S256 .f32)
    (g : FVec Ideal S3x256x1x1 .f32) (d : FVec Ideal S3 .f32) (l : Fin 5) (a : Fin 3) (h : Fin 100) (w : Fin 152) :
    val_main_v66 (F := Ideal) x k b g d (ix4 l a h w) = head x k b g d l a h w := by
  pointwise [val_main_v66, val_main_v65, val_main_v64, val_main_v63, val_main_v62, val_main_v61, hidden_read, head]

/-- The reference's box regressions are the box head of the plain formula. -/
theorem box_read (x : FVec Ideal S5x256x100x152 .f32) (k : FVec Ideal S256x256x3x3 .f32) (b : FVec Ideal S256 .f32)
    (g : FVec Ideal S12x256x1x1 .f32) (d : FVec Ideal S12 .f32) (l : Fin 5) (a : Fin 12) (h : Fin 100) (w : Fin 152) :
    val_main_v72 (F := Ideal) x k b g d (ix4 l a h w) = head x k b g d l a h w := by
  pointwise [val_main_v72, val_main_v71, val_main_v70, val_main_v69, val_main_v68, val_main_v67, hidden_read, head]

end Cert.ReferenceIdeal.Plain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelIdealResult
public import proofs.«01_k».proof.Proof.ReferenceValue
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Every execution of the reference ends with the arguments unchanged and every semaphore counter at zero: it has none. -/
theorem reference_frame : Cert.quiescent_ReferenceIdeal (hReferenceIdeal := Cert.ReferenceIdeal.Gen.facts) := fun m g _ =>
  (θ_run _ _ _).mono (fun r h => ⟨fun c => (h c).2.2, sem_eq_zero_of_no_sems (by decide) r.2⟩)
    (Cert.ReferenceIdeal.Value.run (F := Ideal) m g)

/-- The reference's scores, as its run names them, are the plain formula of its arguments. -/
theorem reference_scores (m : (ℓ : Loc Cert.ReferenceIdeal.nD Cert.ReferenceIdeal.τ Cert.ReferenceIdeal.sig) → Buf (Elt Ideal) ℓ)
    (c : Dev Cert.ReferenceIdeal.nD) (i : Cert.ReferenceIdeal.S5x3x100x152.Idx) :
    Cert.ReferenceIdeal.Value.res_main_v66 m c i
      = Cert.Spec.head (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (i 0) (i 1) (i 2).val (i 3).val := by
  rw [Cert.ReferenceIdeal.Read.val_main_v66_eq]
  exact (congrArg _ (eq_ix4 i)).trans (Cert.ReferenceIdeal.Plain.score_read _ _ _ _ _ (i 0) (i 1) (i 2) (i 3))

/-- The reference's box regressions, as its run names them, are the plain formula of its arguments. -/
theorem reference_boxes (m : (ℓ : Loc Cert.ReferenceIdeal.nD Cert.ReferenceIdeal.τ Cert.ReferenceIdeal.sig) → Buf (Elt Ideal) ℓ)
    (c : Dev Cert.ReferenceIdeal.nD) (i : Cert.ReferenceIdeal.S5x12x100x152.Idx) :
    Cert.ReferenceIdeal.Value.res_main_v72 m c i
      = Cert.Spec.head (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (i 0) (i 1) (i 2).val (i 3).val := by
  rw [Cert.ReferenceIdeal.Read.val_main_v72_eq]
  exact (congrArg _ (eq_ix4 i)).trans (Cert.ReferenceIdeal.Plain.box_read _ _ _ _ _ (i 0) (i 1) (i 2) (i 3))

/-- The kernel and the reference, on equal arguments, end with equal results. -/
theorem equal_results : Cert.algebraic_KernelIdeal_ReferenceIdeal (hKernelIdeal := Cert.KernelIdeal.Gen.facts)
    (hReferenceIdeal := Cert.ReferenceIdeal.Gen.facts) := by
  intro m g m' g' hpre hagree
  refine ⟨Cert.KernelIdeal.Body.scores m, Cert.KernelIdeal.Body.boxes m, ?_, ?_⟩
  · exact (θ_run _ _ _).mono
      (fun r h c => ⟨((h.1.1 c).1 7).trans (Cert.KernelIdeal.Body.scores_final m c), ((h.1.1 c).1 8).trans (Cert.KernelIdeal.Body.boxes_final m c), h.2.1 c⟩)
      (θ_run_and (Cert.KernelIdeal.Body.run_ends m g) (Cert.KernelIdeal.Body.frame_holds m g))
  · refine (θ_run _ _ _).mono (fun r h c => ?_) (Cert.ReferenceIdeal.Value.run (F := Ideal) m' g')
    obtain ⟨h0, h1, h2⟩ := h c
    obtain ⟨a0, a1, a2, a3, a4, a5, a6⟩ := hagree c
    refine ⟨h0.trans (funext fun i => ?_), h1.trans (funext fun i => ?_), h2⟩
    · rw [reference_scores, a0, a1, a2, a3, a4]; rfl
    · rw [reference_boxes, a0, a1, a2, a5, a6]; rfl

/-- All five claims. -/
theorem claim : Cert.Claim := ⟨Cert.Kernel.Gen.facts, Cert.KernelIdeal.Gen.facts, Cert.ReferenceIdeal.Gen.facts,
  fun m g _ => Cert.Kernel.Body.frame_holds m g, fun m g _ => Cert.KernelIdeal.Body.frame_holds m g, reference_frame, trivial, equal_results⟩

end Cert.Proof

end
